-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x16 : Shape := ⟨2, ![4096, 16]⟩
abbrev S4096 : Shape := ⟨1, ![4096]⟩
abbrev S_ : Shape := ⟨0, ![]⟩

class Facts : Prop where
  reducesTo_S4096x16_S4096_d1 : S4096x16.ReducesTo [1] S4096
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x16 .f32) (main_arg1 : IVec S4096 32) : IVec S_ 1 :=
  let main_v0 : FVec F S4096x16 .f32 := mulf main_arg0 main_arg0
  let main_cst : FVec F S_ .f32 := constant S_ .f32 0x00000000#32
  let main_v1 : FVec F S4096 .f32 := (fun x v => Host.reduceAdd x v reducesTo_S4096x16_S4096_d1 h_S_) main_v0 main_cst
  let main_cst_0 : FVec F S_ .f32 := constant S_ .f32 0x44000000#32
  let main_v2 : FVec F S4096 .f32 := broadcastInDim S4096 ![] bcast_S_S4096 main_cst_0
  let main_v3 : IVec S4096 1 := cmpf .olt main_v1 main_v2
  let main_c : IVec S_ 1 := constantI S_ 1 1#1
  let main_v4 : IVec S_ 1 := (fun x v => Host.reduce IntOp.andi x v reducesTo_S4096_S_d0 h_S_) main_v3 main_c
  let main_c_1 : IVec S_ 32 := constantI S_ 32 0#32
  let main_v5 : IVec S4096 32 := broadcastInDim S4096 ![] bcast_S_S4096 main_c_1
  let main_v6 : IVec S4096 1 := cmpi .sge main_arg1 main_v5
  let main_c_2 : IVec S_ 32 := constantI S_ 32 100#32
  let main_v7 : IVec S4096 32 := broadcastInDim S4096 ![] bcast_S_S4096 main_c_2
  let main_v8 : IVec S4096 1 := cmpi .slt main_arg1 main_v7
  let main_v9 : IVec S4096 1 := andi main_v6 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v4 main_v10
  main_v11
-- ==== Kernel.lean ====
abbrev S4096x16 : Shape := ⟨2, ![4096, 16]⟩
abbrev S4096 : Shape := ⟨1, ![4096]⟩
abbrev S4096x1 : Shape := ⟨2, ![4096, 1]⟩
abbrev S1x1 : Shape := ⟨2, ![1, 1]⟩
abbrev S4096x118 : Shape := ⟨2, ![4096, 118]⟩
abbrev S1x100 : Shape := ⟨2, ![1, 100]⟩
abbrev S4096x100 : Shape := ⟨2, ![4096, 100]⟩
abbrev S256x118 : Shape := ⟨2, ![256, 118]⟩
abbrev S256x1 : Shape := ⟨2, ![256, 1]⟩
abbrev S1x256 : Shape := ⟨2, ![1, 256]⟩
abbrev S256x256 : Shape := ⟨2, ![256, 256]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S4096x16, .f32⟩
  | .hbm, ⟨1, _⟩ => ⟨S4096, .i32⟩
  | .hbm, ⟨2, _⟩ => ⟨S4096x1, .i32⟩
  | .hbm, ⟨3, _⟩ => ⟨S1x1, .f32⟩
  | .hbm, ⟨4, _⟩ => ⟨S_, .f32⟩
  | .local _ .vmem, ⟨0, _⟩ => ⟨S4096x16, .f32⟩
  | .local _ .vmem, ⟨1, _⟩ => ⟨S4096x1, .i32⟩
  | .local _ .vmem, ⟨2, _⟩ => ⟨S1x1, .f32⟩
  | .local _ .vmem, ⟨3, _⟩ => ⟨S4096x118, .f32⟩
  | .local _ .vmem, ⟨4, _⟩ => ⟨S4096x118, .f32⟩
  | .local _ .vmem, ⟨5, _⟩ => ⟨S4096x118, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : Index := Scalar.indexCast v3
  let c0 : Index := 0#32
  ![v4.toNat, 0]
def k0_off2 (i : grid0.Coords) (c0_i32_1 : BitVec 32) : Fin 2 → Nat :=
  let arg0 : BitVec 32 := BitVec.ofNat 32 (i 0).val
  let v12 : BitVec 32 := Scalar.addi arg0 c0_i32_1
  let c16_i32 : BitVec 32 := 16#32
  let c0_i32_2 : BitVec 32 := 0#32
  let v13 : BitVec 1 := Scalar.cmpi .eq c16_i32 c0_i32_2
  let c1_i32 : BitVec 32 := 1#32
  let v14 : BitVec 32 := Scalar.select v13 c1_i32 c16_i32
  let v15 : BitVec 32 := Scalar.remsi v12 v14
  let c0_i32_4 : BitVec 32 := 0#32
  let v17 : BitVec 1 := Scalar.cmpi .slt v15 c0_i32_4
  let c0_i32_5 : BitVec 32 := 0#32
  let v18 : BitVec 1 := Scalar.cmpi .slt v14 c0_i32_5
  let v19 : BitVec 1 := Scalar.xori v17 v18
  let c0_i32_3 : BitVec 32 := 0#32
  let v16 : BitVec 1 := Scalar.cmpi .ne v15 c0_i32_3
  let v20 : BitVec 1 := Scalar.andi v19 v16
  let v21 : BitVec 32 := Scalar.addi v15 v14
  let v22 : BitVec 32 := Scalar.select v20 v21 v15
  let c256_i32_6 : BitVec 32 := 256#32
  let v23 : BitVec 32 := Scalar.muli v22 c256_i32_6
  let v24 : Index := Scalar.indexCast v23
  let c0_7 : Index := 0#32
  ![v24.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x16 : Shape := ⟨2, ![4096, 16]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S16x4096 : Shape := ⟨2, ![16, 4096]⟩
abbrev S4096x1x1 : Shape := ⟨3, ![4096, 1, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 173
  | .vmem => 0
  | .smem => 0
  | _ => 0

abbrev hbmTy0_0 (i : Nat) : BufTy := match i % 128 with
  | 0 => ⟨S4096x16, .f32⟩
  | 1 => ⟨S4096, .i32⟩
  | 2 => ⟨S4096x16, .f32⟩
  | 3 => ⟨S_, .f32⟩
  | 4 => ⟨S4096, .f32⟩
  | 5 => ⟨S4096x1, .f32⟩
  | 6 => ⟨S1x4096, .f32⟩
  | 7 => ⟨S4096x4096, .f32⟩
  | 8 => ⟨S4096x4096, .f32⟩
  | 9 => ⟨S4096x4096, .f32⟩
  | 10 => ⟨S16x4096, .f32⟩
  | 11 => ⟨S4096x4096, .f32⟩
  | 12 => ⟨S_, .f32⟩
  | 13 => ⟨S4096x4096, .f32⟩
  | 14 => ⟨S4096x4096, .f32⟩
  | 15 => ⟨S4096x4096, .f32⟩
  | 16 => ⟨S_, .f32⟩
  | 17 => ⟨S_, .f32⟩
  | 18 => ⟨S4096x4096, .f32⟩
  | 19 => ⟨S4096x4096, .f32⟩
  | 20 => ⟨S4096x4096, .f32⟩
  | 21 => ⟨S4096x1, .i32⟩
  | 22 => ⟨S1x4096, .i32⟩
  | 23 => ⟨S4096x4096, .i32⟩
  | 24 => ⟨S4096x4096, .i32⟩
  | 25 => ⟨S4096x4096, .i1⟩
  | 26 => ⟨S4096x4096, .i32⟩
  | 27 => ⟨S4096x4096, .i32⟩
  | 28 => ⟨S_, .i32⟩
  | 29 => ⟨S4096x4096, .i32⟩
  | 30 => ⟨S4096x4096, .i32⟩
  | 31 => ⟨S4096x4096, .i1⟩
  | 32 => ⟨S4096x4096, .i1⟩
  | 33 => ⟨S4096x4096, .i1⟩
  | 34 => ⟨S_, .f32⟩
  | 35 => ⟨S_, .f32⟩
  | 36 => ⟨S4096x4096, .f32⟩
  | 37 => ⟨S4096x4096, .f32⟩
  | 38 => ⟨S4096x4096, .i32⟩
  | 39 => ⟨S_, .f32⟩
  | 40 => ⟨S_, .i32⟩
  | 41 => ⟨S4096, .f32⟩
  | 42 => ⟨S4096, .i32⟩
  | 43 => ⟨S4096x1, .i32⟩
  | 44 => ⟨S_, .i32⟩
  | 45 => ⟨S4096x1, .i32⟩
  | 46 => ⟨S4096x1, .i1⟩
  | 47 => ⟨S_, .i32⟩
  | 48 => ⟨S4096x1, .i32⟩
  | 49 => ⟨S4096x1, .i32⟩
  | 50 => ⟨S4096x1, .i32⟩
  | 51 => ⟨S4096x1x1, .i32⟩
  | 52 => ⟨S1, .i32⟩
  | 53 => ⟨S_, .i32⟩
  | 54 => ⟨S4096x1x1, .i32⟩
  | 55 => ⟨S4096x1x1, .i1⟩
  | 56 => ⟨S1x1x1, .i32⟩
  | 57 => ⟨S4096x1x1, .i32⟩
  | 58 => ⟨S4096x1x1, .i1⟩
  | 59 => ⟨S4096x1x1, .i1⟩
  | 60 => ⟨S_, .i1⟩
  | 61 => ⟨S4096x1, .i1⟩
  | 62 => ⟨S4096x1, .f32⟩
  | 63 => ⟨S_, .f32⟩
  | 64 => ⟨S4096x1, .f32⟩
  | 65 => ⟨S4096x1, .f32⟩
  | 66 => ⟨S4096, .f32⟩
  | 67 => ⟨S4096x4096, .i1⟩
  | 68 => ⟨S4096x1, .f32⟩
  | 69 => ⟨S4096x4096, .f32⟩
  | 70 => ⟨S4096x4096, .i1⟩
  | 71 => ⟨S4096x4096, .i1⟩
  | 72 => ⟨S4096x1, .f32⟩
  | 73 => ⟨S_, .f32⟩
  | 74 => ⟨S4096x1, .f32⟩
  | 75 => ⟨S4096x1, .f32⟩
  | 76 => ⟨S4096x4096, .f32⟩
  | 77 => ⟨S4096x4096, .i1⟩
  | 78 => ⟨S4096x4096, .i1⟩
  | 79 => ⟨S_, .f32⟩
  | 80 => ⟨S_, .f32⟩
  | 81 => ⟨S4096x4096, .f32⟩
  | 82 => ⟨S4096x4096, .f32⟩
  | 83 => ⟨S4096x4096, .i32⟩
  | 84 => ⟨S_, .f32⟩
  | 85 => ⟨S_, .i32⟩
  | 86 => ⟨S4096, .f32⟩
  | 87 => ⟨S4096, .i32⟩
  | 88 => ⟨S_, .f32⟩
  | 89 => ⟨S_, .f32⟩
  | 90 => ⟨S4096x4096, .f32⟩
  | 91 => ⟨S4096x4096, .f32⟩
  | 92 => ⟨S4096x4096, .i32⟩
  | 93 => ⟨S_, .f32⟩
  | 94 => ⟨S_, .i32⟩
  | 95 => ⟨S4096, .f32⟩
  | 96 => ⟨S4096, .i32⟩
  | 97 => ⟨S_, .i1⟩
  | 98 => ⟨S4096, .i1⟩
  | 99 => ⟨S4096, .i32⟩
  | 100 => ⟨S_, .i32⟩
  | 101 => ⟨S4096, .i32⟩
  | 102 => ⟨S4096, .i1⟩
  | 103 => ⟨S_, .i32⟩
  | 104 => ⟨S4096, .i32⟩
  | 105 => ⟨S4096, .i32⟩
  | 106 => ⟨S4096, .i32⟩
  | 107 => ⟨S4096x1, .i32⟩
  | 108 => ⟨S1, .i32⟩
  | 109 => ⟨S_, .i32⟩
  | 110 => ⟨S4096x1, .i32⟩
  | 111 => ⟨S4096x1, .i1⟩
  | 112 => ⟨S1x1, .i32⟩
  | 113 => ⟨S4096x1, .i32⟩
  | 114 => ⟨S4096x1, .i1⟩
  | 115 => ⟨S4096x1, .i1⟩
  | 116 => ⟨S_, .i1⟩
  | 117 => ⟨S4096, .i1⟩
  | 118 => ⟨S4096x16, .f32⟩
  | 119 => ⟨S4096x16, .i1⟩
  | 120 => ⟨S_, .f32⟩
  | 121 => ⟨S4096x16, .f32⟩
  | 122 => ⟨S4096x16, .f32⟩
  | 123 => ⟨S_, .i32⟩
  | 124 => ⟨S4096, .i32⟩
  | 125 => ⟨S4096, .i1⟩
  | 126 => ⟨S_, .i32⟩
  | 127 => ⟨S4096, .i32⟩
  | _ => ⟨S4096x16, .f32⟩

abbrev hbmTy0_1 (i : Nat) : BufTy := match i % 128 with
  | 0 => ⟨S4096, .i32⟩
  | 1 => ⟨S4096, .i32⟩
  | 2 => ⟨S4096x1, .i32⟩
  | 3 => ⟨S1, .i32⟩
  | 4 => ⟨S_, .i32⟩
  | 5 => ⟨S4096x1, .i32⟩
  | 6 => ⟨S4096x1, .i1⟩
  | 7 => ⟨S1x1, .i32⟩
  | 8 => ⟨S4096x1, .i32⟩
  | 9 => ⟨S4096x1, .i1⟩
  | 10 => ⟨S4096x1, .i1⟩
  | 11 => ⟨S_, .i1⟩
  | 12 => ⟨S4096, .i1⟩
  | 13 => ⟨S4096x16, .f32⟩
  | 14 => ⟨S4096x16, .i1⟩
  | 15 => ⟨S_, .f32⟩
  | 16 => ⟨S4096x16, .f32⟩
  | 17 => ⟨S4096x16, .f32⟩
  | 18 => ⟨S4096x16, .f32⟩
  | 19 => ⟨S4096x16, .f32⟩
  | 20 => ⟨S_, .f32⟩
  | 21 => ⟨S4096, .f32⟩
  | 22 => ⟨S_, .f32⟩
  | 23 => ⟨S4096, .f32⟩
  | 24 => ⟨S4096, .f32⟩
  | 25 => ⟨S4096, .f32⟩
  | 26 => ⟨S4096x16, .f32⟩
  | 27 => ⟨S4096x16, .f32⟩
  | 28 => ⟨S_, .f32⟩
  | 29 => ⟨S4096, .f32⟩
  | 30 => ⟨S_, .f32⟩
  | 31 => ⟨S4096, .f32⟩
  | 32 => ⟨S4096, .f32⟩
  | 33 => ⟨S4096, .f32⟩
  | 34 => ⟨S4096, .f32⟩
  | 35 => ⟨S_, .f32⟩
  | 36 => ⟨S4096, .f32⟩
  | 37 => ⟨S4096, .f32⟩
  | 38 => ⟨S_, .f32⟩
  | 39 => ⟨S4096, .f32⟩
  | 40 => ⟨S4096, .f32⟩
  | 41 => ⟨S_, .f32⟩
  | 42 => ⟨S_, .f32⟩
  | 43 => ⟨S_, .f32⟩
  | 44 => ⟨S_, .f32⟩
  | _ => ⟨S4096x16, .f32⟩

abbrev hbmTy (i : Nat) : BufTy := match i / 128 with
  | 0 => hbmTy0_0 i
  | 1 => hbmTy0_1 i
  | _ => ⟨S4096x16, .f32⟩

abbrev bufTy : (tb : Table) → Fin (tcTables nBuf tb) → BufTy
  | .hbm, ⟨i, _⟩ => hbmTy i
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v26 : Ref sig .tc := ⟨.hbm, 37, rfl⟩
abbrev main_call2_v0 : Ref sig .tc := ⟨.hbm, 38, rfl⟩
abbrev main_call2_cst : Ref sig .tc := ⟨.hbm, 39, rfl⟩
abbrev main_call2_c : Ref sig .tc := ⟨.hbm, 40, rfl⟩
abbrev main_call2_v1_0 : Ref sig .tc := ⟨.hbm, 41, rfl⟩
abbrev main_v27 : Ref sig .tc := ⟨.hbm, 42, rfl⟩
abbrev main_v28 : Ref sig .tc := ⟨.hbm, 43, rfl⟩
abbrev main_call3_c : Ref sig .tc := ⟨.hbm, 44, rfl⟩
abbrev main_call3_v0 : Ref sig .tc := ⟨.hbm, 45, rfl⟩
abbrev main_call3_v1 : Ref sig .tc := ⟨.hbm, 46, rfl⟩
abbrev main_call3_c_0 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_c_1 : Ref sig .tc := ⟨.hbm, 52, rfl⟩
abbrev main_call3_c_2 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_call3_c_3 : Ref sig .tc := ⟨.hbm, 60, rfl⟩
abbrev main_call3_v12 : Ref sig .tc := ⟨.hbm, 61, rfl⟩
abbrev main_call3_v13 : Ref sig .tc := ⟨.hbm, 62, rfl⟩
abbrev main_call3_cst : Ref sig .tc := ⟨.hbm, 63, rfl⟩
abbrev main_call3_v14 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_3 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_4 : Ref sig .tc := ⟨.hbm, 79, rfl⟩
abbrev main_call4_v0 : Ref sig .tc := ⟨.hbm, 80, rfl⟩
abbrev main_call4_v1 : Ref sig .tc := ⟨.hbm, 81, rfl⟩
abbrev main_v42 : Ref sig .tc := ⟨.hbm, 82, rfl⟩
abbrev main_call5_v0 : Ref sig .tc := ⟨.hbm, 83, rfl⟩
abbrev main_call5_cst : Ref sig .tc := ⟨.hbm, 84, rfl⟩
abbrev main_call5_c : Ref sig .tc := ⟨.hbm, 85, rfl⟩
abbrev main_call5_v1_0 : Ref sig .tc := ⟨.hbm, 86, rfl⟩
abbrev main_v43 : Ref sig .tc := ⟨.hbm, 87, rfl⟩
abbrev main_cst_5 : Ref sig .tc := ⟨.hbm, 88, rfl⟩
abbrev main_call6_v0 : Ref sig .tc := ⟨.hbm, 89, rfl⟩
abbrev main_call6_v1 : Ref sig .tc := ⟨.hbm, 90, rfl⟩
abbrev main_v44 : Ref sig .tc := ⟨.hbm, 91, rfl⟩
abbrev main_call7_v0 : Ref sig .tc := ⟨.hbm, 92, rfl⟩
abbrev main_call7_cst : Ref sig .tc := ⟨.hbm, 93, rfl⟩
abbrev main_call7_c : Ref sig .tc := ⟨.hbm, 94, rfl⟩
abbrev main_call7_v1_0 : Ref sig .tc := ⟨.hbm, 95, rfl⟩
abbrev main_v45 : Ref sig .tc := ⟨.hbm, 96, rfl⟩
abbrev main_c_6 : Ref sig .tc := ⟨.hbm, 97, rfl⟩
abbrev main_v46 : Ref sig .tc := ⟨.hbm, 98, rfl⟩
abbrev main_v47 : Ref sig .tc := ⟨.hbm, 99, rfl⟩
abbrev main_call9_c : Ref sig .tc := ⟨.hbm, 100, rfl⟩
abbrev main_call9_v0 : Ref sig .tc := ⟨.hbm, 101, rfl⟩
abbrev main_call9_v1 : Ref sig .tc := ⟨.hbm, 102, rfl⟩
abbrev main_call9_c_0 : Ref sig .tc := ⟨.hbm, 103, rfl⟩
abbrev main_call9_v2 : Ref sig .tc := ⟨.hbm, 104, rfl⟩
abbrev main_call9_v3 : Ref sig .tc := ⟨.hbm, 105, rfl⟩
abbrev main_call9_v4 : Ref sig .tc := ⟨.hbm, 106, rfl⟩
abbrev main_call9_v5 : Ref sig .tc := ⟨.hbm, 107, rfl⟩
abbrev main_call9_c_1 : Ref sig .tc := ⟨.hbm, 108, rfl⟩
abbrev main_call9_c_2 : Ref sig .tc := ⟨.hbm, 109, rfl⟩
abbrev main_call9_v6 : Ref sig .tc := ⟨.hbm, 110, rfl⟩
abbrev main_call9_v7 : Ref sig .tc := ⟨.hbm, 111, rfl⟩
abbrev main_call9_v8 : Ref sig .tc := ⟨.hbm, 112, rfl⟩
abbrev main_call9_v9 : Ref sig .tc := ⟨.hbm, 113, rfl⟩
abbrev main_call9_v10 : Ref sig .tc := ⟨.hbm, 114, rfl⟩
abbrev main_call9_v11 : Ref sig .tc := ⟨.hbm, 115, rfl⟩
abbrev main_call9_c_3 : Ref sig .tc := ⟨.hbm, 116, rfl⟩
abbrev main_call9_v12 : Ref sig .tc := ⟨.hbm, 117, rfl⟩
abbrev main_call9_v13 : Ref sig .tc := ⟨.hbm, 118, rfl⟩
abbrev main_call9_v14 : Ref sig .tc := ⟨.hbm, 119, rfl⟩
abbrev main_call9_cst : Ref sig .tc := ⟨.hbm, 120, rfl⟩
abbrev main_call9_v15 : Ref sig .tc := ⟨.hbm, 121, rfl⟩
abbrev main_v48 : Ref sig .tc := ⟨.hbm, 122, rfl⟩
abbrev main_call10_c : Ref sig .tc := ⟨.hbm, 123, rfl⟩
abbrev main_call10_v0 : Ref sig .tc := ⟨.hbm, 124, rfl⟩
abbrev main_call10_v1 : Ref sig .tc := ⟨.hbm, 125, rfl⟩
abbrev main_call10_c_0 : Ref sig .tc := ⟨.hbm, 126, rfl⟩
abbrev main_call10_v2 : Ref sig .tc := ⟨.hbm, 127, rfl⟩
abbrev main_call10_v3 : Ref sig .tc := ⟨.hbm, 128, rfl⟩
abbrev main_call10_v4 : Ref sig .tc := ⟨.hbm, 129, rfl⟩
abbrev main_call10_v5 : Ref sig .tc := ⟨.hbm, 130, rfl⟩
abbrev main_call10_c_1 : Ref sig .tc := ⟨.hbm, 131, rfl⟩
abbrev main_call10_c_2 : Ref sig .tc := ⟨.hbm, 132, rfl⟩
abbrev main_call10_v6 : Ref sig .tc := ⟨.hbm, 133, rfl⟩
abbrev main_call10_v7 : Ref sig .tc := ⟨.hbm, 134, rfl⟩
abbrev main_call10_v8 : Ref sig .tc := ⟨.hbm, 135, rfl⟩
abbrev main_call10_v9 : Ref sig .tc := ⟨.hbm, 136, rfl⟩
abbrev main_call10_v10 : Ref sig .tc := ⟨.hbm, 137, rfl⟩
abbrev main_call10_v11 : Ref sig .tc := ⟨.hbm, 138, rfl⟩
abbrev main_call10_c_3 : Ref sig .tc := ⟨.hbm, 139, rfl⟩
abbrev main_call10_v12 : Ref sig .tc := ⟨.hbm, 140, rfl⟩
abbrev main_call10_v13 : Ref sig .tc := ⟨.hbm, 141, rfl⟩
abbrev main_call10_v14 : Ref sig .tc := ⟨.hbm, 142, rfl⟩
abbrev main_call10_cst : Ref sig .tc := ⟨.hbm, 143, rfl⟩
abbrev main_call10_v15 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩
abbrev main_cst_7 : Ref sig .tc := ⟨.hbm, 148, rfl⟩
abbrev main_v52 : Ref sig .tc := ⟨.hbm, 149, rfl⟩
abbrev main_cst_8 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_cst_9 : Ref sig .tc := ⟨.hbm, 156, rfl⟩
abbrev main_v58 : Ref sig .tc := ⟨.hbm, 157, rfl⟩
abbrev main_cst_10 : Ref sig .tc := ⟨.hbm, 158, rfl⟩
abbrev main_v59 : Ref sig .tc := ⟨.hbm, 159, rfl⟩
abbrev main_v60 : Ref sig .tc := ⟨.hbm, 160, rfl⟩
abbrev main_v61 : Ref sig .tc := ⟨.hbm, 161, rfl⟩
abbrev main_v62 : Ref sig .tc := ⟨.hbm, 162, rfl⟩
abbrev main_cst_11 : Ref sig .tc := ⟨.hbm, 163, rfl⟩
abbrev main_v63 : Ref sig .tc := ⟨.hbm, 164, rfl⟩
abbrev main_v64 : Ref sig .tc := ⟨.hbm, 165, rfl⟩
abbrev main_cst_12 : Ref sig .tc := ⟨.hbm, 166, rfl⟩
abbrev main_v65 : Ref sig .tc := ⟨.hbm, 167, rfl⟩
abbrev main_v66 : Ref sig .tc := ⟨.hbm, 168, rfl⟩
abbrev main_cst_13 : Ref sig .tc := ⟨.hbm, 169, rfl⟩
abbrev main_v67 : Ref sig .tc := ⟨.hbm, 170, rfl⟩
abbrev main_cst_14 : Ref sig .tc := ⟨.hbm, 171, rfl⟩
abbrev main_v68 : Ref sig .tc := ⟨.hbm, 172, rfl⟩

abbrev nD : Nat := 1
abbrev τ : Topo := Topo.v7x

variable {F : FTy → Type} [FloatOps F]
-- ==== Proof.RefRun.lean ====
module

public import proofs.«01_k».proof.Proof.Gen.ReferenceIdeal
public import Idealize.ShloMosaic.Lib.StableHlo.Run
public import Idealize.ShloMosaic.Lib.Pipeline.Frame

@[expose] public section

set_option Elab.async false

noncomputable section

namespace Cert.Triplet.Ref

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 171 (window `main_part0`). -/
abbrev lines0_0 : List (HloOp τ sig (Elt F)) :=
  [ binary main_arg0 main_arg0 main_v0 (mulf : (⟨S4096x16, .f32⟩ : BufTy).Contents (Elt F) → (⟨S4096x16, .f32⟩ : BufTy).Contents (Elt F) → (⟨S4096x16, .f32⟩ : BufTy).Contents (Elt F)),
    nullary main_cst (constant S_ .f32 0x00000000#32),
    binary main_v0 main_cst main_v1 ((fun x v => Host.reduceAdd x v reducesTo_S4096x16_S4096_d1 h_S_) : (⟨S4096x16, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    unary main_v1 main_v3 (broadcastInDim S1x4096 ![1] bcast_S4096_S1x4096_1 : (⟨S4096, .f32⟩ : BufTy).Contents (Elt F) → (⟨S1x4096, .f32⟩ : BufTy).Contents (Elt F)),
    unary main_v2 main_v4 (broadcastInDim S4096x4096 ![0, 1] bcast_S4096x1_S4096x4096_0_1 : (⟨S4096x1, .f32⟩ : BufTy).Contents (Elt F) → (⟨S4096x4096, .f32⟩ : BufTy).Contents (Elt F)),
    unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    unary main_arg0 main_v7 ((transpose S16x4096 [1, 0] · transposes_S4096x16_S16x4096_1_0) : (⟨S4096x16, .f32⟩ : BufTy).Contents (Elt F) → (⟨S16x4096, .f32⟩ : BufTy).Contents (Elt F)),
    binary main_arg0 main_v7 main_v8 ((fun l r => Host.dotGeneral dot_S4096x16_S16x4096_S4096x4096_1_0_0_1_n_n none l r) : (⟨S4096x16, .f32⟩ : BufTy).Contents (Elt F) → (⟨S16x4096, .f32⟩ : BufTy).Contents (Elt F) → (⟨S4096x4096, .f32⟩ : BufTy).Contents (Elt F)),
    nullary main_cst_0 (constant S_ .f32 0x40000000#32),
    unary main_cst_0 main_v9 (broadcastInDim S4096x4096 ![] bcast_S_S4096x4096 : (⟨S_, .f32⟩ : BufTy).Contents (Elt F) → (⟨S4096x4096, .f32⟩ : BufTy).Contents (Elt F)),
    binary main_v9 main_v8 main_v10 (mulf : (⟨S4096x4096, .f32⟩ : BufTy).Contents (Elt F) → (⟨S4096x4096, .f32⟩ : BufTy).Contents (Elt F) → (⟨S4096x4096, .f32⟩ : BufTy).Contents (Elt F)),
    binary main_v6 main_v10 main_v11 (subf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0x00000000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S4096x4096, .f32⟩) main_call0_v1) (broadcastInDim S4096x4096 ![] bcast_S_S4096x4096),
    TRef.binary (TRef.of (T := ⟨S4096x4096, .f32⟩) main_call0_v1) (TRef.of (T := ⟨S4096x4096, .f32⟩) main_v11) (TRef.of (T := ⟨S4096x4096, .f32⟩) main_v12) maximumf,
    unary main_v12 main_v13 (Host.sqrt : (⟨S4096x4096, .f32⟩ : BufTy).Contents (Elt F) → (⟨S4096x4096, .f32⟩ : BufTy).Contents (Elt F)),
    unary main_arg1 main_v14 (broadcastInDim S4096x1 ![0] bcast_S4096_S4096x1_0 : (⟨S4096, .i32⟩ : BufTy).Contents (Elt F) → (⟨S4096x1, .i32⟩ : BufTy).Contents (Elt F)),
    unary main_arg1 main_v15 (broadcastInDim S1x4096 ![1] bcast_S4096_S1x4096_1 : (⟨S4096, .i32⟩ : BufTy).Contents (Elt F) → (⟨S1x4096, .i32⟩ : BufTy).Contents (Elt F)),
    unary main_v14 main_v16 (broadcastInDim S4096x4096 ![0, 1] bcast_S4096x1_S4096x4096_0_1 : (⟨S4096x1, .i32⟩ : BufTy).Contents (Elt F) → (⟨S4096x4096, .i32⟩ : BufTy).Contents (Elt F)),
    unary main_v15 main_v17 (broadcastInDim S4096x4096 ![0, 1] bcast_S1x4096_S4096x4096_0_1 : (⟨S1x4096, .i32⟩ : BufTy).Contents (Elt F) → (⟨S4096x4096, .i32⟩ : BufTy).Contents (Elt F)),
    binary main_v16 main_v17 main_v18 (cmpi .eq : (⟨S4096x4096, .i32⟩ : BufTy).Contents (Elt F) → (⟨S4096x4096, .i32⟩ : BufTy).Contents (Elt F) → (⟨S4096x4096, .i1⟩ : BufTy).Contents (Elt F)),
    nullary main_v19 (iotaInDim S4096x4096 32 0),
    nullary main_v20 (iotaInDim S4096x4096 32 1),
    nullary main_c (constantI S_ 32 0#32),
    unary main_c main_v21 (broadcastInDim S4096x4096 ![] bcast_S_S4096x4096 : (⟨S_, .i32⟩ : BufTy).Contents (Elt F) → (⟨S4096x4096, .i32⟩ : BufTy).Contents (Elt F)),
    binary main_v19 main_v21 main_v22 (addi : (⟨S4096x4096, .i32⟩ : BufTy).Contents (Elt F) → (⟨S4096x4096, .i32⟩ : BufTy).Contents (Elt F) → (⟨S4096x4096, .i32⟩ : BufTy).Contents (Elt F)),
    binary main_v22 main_v20 main_v23 (cmpi .eq : (⟨S4096x4096, .i32⟩ : BufTy).Contents (Elt F) → (⟨S4096x4096, .i32⟩ : BufTy).Contents (Elt F) → (⟨S4096x4096, .i1⟩ : BufTy).Contents (Elt F)) ]

/-- @main's operations 31 … 60 of 171 (window `main_part0`). -/
abbrev lines0_1 : List (HloOp τ sig (Elt F)) :=
  [ unary main_v23 main_v24 (noti : (⟨S4096x4096, .i1⟩ : BufTy).Contents (Elt F) → (⟨S4096x4096, .i1⟩ : BufTy).Contents (Elt F)),
    binary main_v18 main_v24 main_v25 (andi : (⟨S4096x4096, .i1⟩ : BufTy).Contents (Elt F) → (⟨S4096x4096, .i1⟩ : BufTy).Contents (Elt F) → (⟨S4096x4096, .i1⟩ : BufTy).Contents (Elt F)),
    nullary main_cst_2 (constant S_ .f32 0x4E6E6B28#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S4096x4096, .f32⟩) main_call1_v1) (broadcastInDim S4096x4096 ![] bcast_S_S4096x4096),
    TRef.ternary (TRef.of (T := ⟨S4096x4096, .i1⟩) main_v25) (TRef.of (T := ⟨S4096x4096, .f32⟩) main_v13) (TRef.of (T := ⟨S4096x4096, .f32⟩) main_call1_v1) (TRef.of (T := ⟨S4096x4096, .f32⟩) main_v26) select,
    TRef.nullary (TRef.of (T := ⟨S4096x4096, .i32⟩) main_call2_v0) (iotaInDim S4096x4096 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S4096x4096, .f32⟩) main_v26) (TRef.of (T := ⟨S4096x4096, .i32⟩) main_call2_v0) (TRef.of (T := ⟨S_, .f32⟩) main_call2_cst) (TRef.of (T := ⟨S_, .i32⟩) main_call2_c) (TRef.of (T := ⟨S4096, .f32⟩) main_call2_v1_0) (fun x y u v j => (Host.argReduce reducer_argmin_f32_i32 x y u v reducesTo_S4096x4096_S4096_d1 h_S_ j).1),
    TRef.quaternary (TRef.of (T := ⟨S4096x4096, .f32⟩) main_v26) (TRef.of (T := ⟨S4096x4096, .i32⟩) main_call2_v0) (TRef.of (T := ⟨S_, .f32⟩) main_call2_cst) (TRef.of (T := ⟨S_, .i32⟩) main_call2_c) (TRef.of (T := ⟨S4096, .i32⟩) main_v27) (fun x y u v j => (Host.argReduce reducer_argmin_f32_i32 x y u v reducesTo_S4096x4096_S4096_d1 h_S_ j).2),
    unary main_v27 main_v28 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S4096x1, .i32⟩) main_call3_v0) (broadcastInDim S4096x1 ![] bcast_S_S4096x1),
    TRef.binary (TRef.of (T := ⟨S4096x1, .i32⟩) main_v28) (TRef.of (T := ⟨S4096x1, .i32⟩) main_call3_v0) (TRef.of (T := ⟨S4096x1, .i1⟩) main_call3_v1) (cmpi .slt),
    TRef.nullary (TRef.of (T := ⟨S_, .i32⟩) main_call3_c_0) (constantI S_ 32 4096#32),
    TRef.unary (TRef.of (T := ⟨S_, .i32⟩) main_call3_c_0) (TRef.of (T := ⟨S4096x1, .i32⟩) main_call3_v2) (broadcastInDim S4096x1 ![] bcast_S_S4096x1),
    TRef.binary (TRef.of (T := ⟨S4096x1, .i32⟩) main_v28) (TRef.of (T := ⟨S4096x1, .i32⟩) main_call3_v2) (TRef.of (T := ⟨S4096x1, .i32⟩) main_call3_v3) addi,
    TRef.ternary (TRef.of (T := ⟨S4096x1, .i1⟩) main_call3_v1) (TRef.of (T := ⟨S4096x1, .i32⟩) main_call3_v3) (TRef.of (T := ⟨S4096x1, .i32⟩) main_v28) (TRef.of (T := ⟨S4096x1, .i32⟩) main_call3_v4) select,
    TRef.reshape (TRef.of (T := ⟨S4096x1, .i32⟩) main_call3_v4) (TRef.of (T := ⟨S4096x1x1, .i32⟩) main_call3_v5) (rfl : (.i32 : EltTy) = .i32) shapeCasts_S4096x1_S4096x1x1,
    TRef.nullary (TRef.of (T := ⟨S1, .i32⟩) main_call3_c_1) (constantI S1 32 4095#32),
    TRef.nullary (TRef.of (T := ⟨S_, .i32⟩) main_call3_c_2) (constantI S_ 32 0#32),
    TRef.unary (TRef.of (T := ⟨S_, .i32⟩) main_call3_c_2) (TRef.of (T := ⟨S4096x1x1, .i32⟩) main_call3_v6) (broadcastInDim S4096x1x1 ![] bcast_S_S4096x1x1),
    TRef.binary (TRef.of (T := ⟨S4096x1x1, .i32⟩) main_call3_v5) (TRef.of (T := ⟨S4096x1x1, .i32⟩) main_call3_v6) (TRef.of (T := ⟨S4096x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S4096x1x1, .i32⟩) main_call3_v9) (broadcastInDim S4096x1x1 ![0, 1, 2] bcast_S1x1x1_S4096x1x1_0_1_2),
    TRef.binary (TRef.of (T := ⟨S4096x1x1, .i32⟩) main_call3_v5) (TRef.of (T := ⟨S4096x1x1, .i32⟩) main_call3_v9) (TRef.of (T := ⟨S4096x1x1, .i1⟩) main_call3_v10) (cmpi .sle),
    TRef.binary (TRef.of (T := ⟨S4096x1x1, .i1⟩) main_call3_v7) (TRef.of (T := ⟨S4096x1x1, .i1⟩) main_call3_v10) (TRef.of (T := ⟨S4096x1x1, .i1⟩) main_call3_v11) andi,
    TRef.nullary (TRef.of (T := ⟨S_, .i1⟩) main_call3_c_3) (constantI S_ 1 1#1),
    TRef.binary (TRef.of (T := ⟨S4096x1x1, .i1⟩) main_call3_v11) (TRef.of (T := ⟨S_, .i1⟩) main_call3_c_3) (TRef.of (T := ⟨S4096x1, .i1⟩) main_call3_v12) (fun x v => Host.reduce IntOp.andi x v reducesTo_S4096x1x1_S4096x1_d2 h_S_) ]

/-- @main's operations 61 … 90 of 171 (window `main_part0`). -/
abbrev lines0_2 : List (HloOp τ sig (Elt F)) :=
  [ TRef.binary (TRef.of (T := ⟨S4096x4096, .f32⟩) main_v13) (TRef.of (T := ⟨S4096x1x1, .i32⟩) main_call3_v5) (TRef.of (T := ⟨S4096x1, .f32⟩) main_call3_v13) (fun x i => Host.gather gather_S4096x4096_S4096x1x1_S4096x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S4096x1, .f32⟩) main_call3_v14) (broadcastInDim S4096x1 ![] bcast_S_S4096x1),
    TRef.ternary (TRef.of (T := ⟨S4096x1, .i1⟩) main_call3_v12) (TRef.of (T := ⟨S4096x1, .f32⟩) main_call3_v13) (TRef.of (T := ⟨S4096x1, .f32⟩) main_call3_v14) (TRef.of (T := ⟨S4096x1, .f32⟩) main_v29) select,
    reshape main_v29 main_v30 (rfl : (.f32 : EltTy) = .f32) shapeCasts_S4096x1_S4096,
    unary main_v18 main_v31 (noti : (⟨S4096x4096, .i1⟩ : BufTy).Contents (Elt F) → (⟨S4096x4096, .i1⟩ : BufTy).Contents (Elt F)),
    unary main_v30 main_v32 (broadcastInDim S4096x1 ![0] bcast_S4096_S4096x1_0 : (⟨S4096, .f32⟩ : BufTy).Contents (Elt F) → (⟨S4096x1, .f32⟩ : BufTy).Contents (Elt F)),
    unary main_v32 main_v33 (broadcastInDim S4096x4096 ![0, 1] bcast_S4096x1_S4096x4096_0_1 : (⟨S4096x1, .f32⟩ : BufTy).Contents (Elt F) → (⟨S4096x4096, .f32⟩ : BufTy).Contents (Elt F)),
    binary main_v13 main_v33 main_v34 (cmpf .ogt : (⟨S4096x4096, .f32⟩ : BufTy).Contents (Elt F) → (⟨S4096x4096, .f32⟩ : BufTy).Contents (Elt F) → (⟨S4096x4096, .i1⟩ : BufTy).Contents (Elt F)),
    binary main_v31 main_v34 main_v35 (andi : (⟨S4096x4096, .i1⟩ : BufTy).Contents (Elt F) → (⟨S4096x4096, .i1⟩ : BufTy).Contents (Elt F) → (⟨S4096x4096, .i1⟩ : BufTy).Contents (Elt F)),
    unary main_v30 main_v36 (broadcastInDim S4096x1 ![0] bcast_S4096_S4096x1_0 : (⟨S4096, .f32⟩ : BufTy).Contents (Elt F) → (⟨S4096x1, .f32⟩ : BufTy).Contents (Elt F)),
    nullary main_cst_3 (constant S_ .f32 0x3F800000#32),
    unary main_cst_3 main_v37 (broadcastInDim S4096x1 ![] bcast_S_S4096x1 : (⟨S_, .f32⟩ : BufTy).Contents (Elt F) → (⟨S4096x1, .f32⟩ : BufTy).Contents (Elt F)),
    binary main_v36 main_v37 main_v38 (addf : (⟨S4096x1, .f32⟩ : BufTy).Contents (Elt F) → (⟨S4096x1, .f32⟩ : BufTy).Contents (Elt F) → (⟨S4096x1, .f32⟩ : BufTy).Contents (Elt F)),
    unary main_v38 main_v39 (broadcastInDim S4096x4096 ![0, 1] bcast_S4096x1_S4096x4096_0_1 : (⟨S4096x1, .f32⟩ : BufTy).Contents (Elt F) → (⟨S4096x4096, .f32⟩ : BufTy).Contents (Elt F)),
    binary main_v13 main_v39 main_v40 (cmpf .olt : (⟨S4096x4096, .f32⟩ : BufTy).Contents (Elt F) → (⟨S4096x4096, .f32⟩ : BufTy).Contents (Elt F) → (⟨S4096x4096, .i1⟩ : BufTy).Contents (Elt F)),
    binary main_v35 main_v40 main_v41 (andi : (⟨S4096x4096, .i1⟩ : BufTy).Contents (Elt F) → (⟨S4096x4096, .i1⟩ : BufTy).Contents (Elt F) → (⟨S4096x4096, .i1⟩ : BufTy).Contents (Elt F)),
    nullary main_cst_4 (constant S_ .f32 0x4E6E6B28#32),
    TRef.unary (TRef.of (T := ⟨S_, .f32⟩) main_cst_4) (TRef.of (T := ⟨S_, .f32⟩) main_call4_v0) id,
    TRef.unary (TRef.of (T := ⟨S_, .f32⟩) main_call4_v0) (TRef.of (T := ⟨S4096x4096, .f32⟩) main_call4_v1) (broadcastInDim S4096x4096 ![] bcast_S_S4096x4096),
    TRef.ternary (TRef.of (T := ⟨S4096x4096, .i1⟩) main_v41) (TRef.of (T := ⟨S4096x4096, .f32⟩) main_v13) (TRef.of (T := ⟨S4096x4096, .f32⟩) main_call4_v1) (TRef.of (T := ⟨S4096x4096, .f32⟩) main_v42) select,
    TRef.nullary (TRef.of (T := ⟨S4096x4096, .i32⟩) main_call5_v0) (iotaInDim S4096x4096 32 1),
    TRef.nullary (TRef.of (T := ⟨S_, .f32⟩) main_call5_cst) (constant S_ .f32 0x7F800000#32),
    TRef.nullary (TRef.of (T := ⟨S_, .i32⟩) main_call5_c) (constantI S_ 32 0#32),
    TRef.quaternary (TRef.of (T := ⟨S4096x4096, .f32⟩) main_v42) (TRef.of (T := ⟨S4096x4096, .i32⟩) main_call5_v0) (TRef.of (T := ⟨S_, .f32⟩) main_call5_cst) (TRef.of (T := ⟨S_, .i32⟩) main_call5_c) (TRef.of (T := ⟨S4096, .f32⟩) main_call5_v1_0) (fun x y u v j => (Host.argReduce reducer_argmin_f32_i32 x y u v reducesTo_S4096x4096_S4096_d1 h_S_ j).1),
    TRef.quaternary (TRef.of (T := ⟨S4096x4096, .f32⟩) main_v42) (TRef.of (T := ⟨S4096x4096, .i32⟩) main_call5_v0) (TRef.of (T := ⟨S_, .f32⟩) main_call5_cst) (TRef.of (T := ⟨S_, .i32⟩) main_call5_c) (TRef.of (T := ⟨S4096, .i32⟩) main_v43) (fun x y u v j => (Host.argReduce reducer_argmin_f32_i32 x y u v reducesTo_S4096x4096_S4096_d1 h_S_ j).2),
    nullary main_cst_5 (constant S_ .f32 0x4E6E6B28#32),
    TRef.unary (TRef.of (T := ⟨S_, .f32⟩) main_cst_5) (TRef.of (T := ⟨S_, .f32⟩) main_call6_v0) id,
    TRef.unary (TRef.of (T := ⟨S_, .f32⟩) main_call6_v0) (TRef.of (T := ⟨S4096x4096, .f32⟩) main_call6_v1) (broadcastInDim S4096x4096 ![] bcast_S_S4096x4096),
    TRef.ternary (TRef.of (T := ⟨S4096x4096, .i1⟩) main_v31) (TRef.of (T := ⟨S4096x4096, .f32⟩) main_v13) (TRef.of (T := ⟨S4096x4096, .f32⟩) main_call6_v1) (TRef.of (T := ⟨S4096x4096, .f32⟩) main_v44) select ]

/-- @main's operations 91 … 120 of 171 (window `main_part0`). -/
abbrev lines0_3 : List (HloOp τ sig (Elt F)) :=
  [ TRef.nullary (TRef.of (T := ⟨S4096x4096, .i32⟩) main_call7_v0) (iotaInDim S4096x4096 32 1),
    TRef.nullary (TRef.of (T := ⟨S_, .f32⟩) main_call7_cst) (constant S_ .f32 0x7F800000#32),
    TRef.nullary (TRef.of (T := ⟨S_, .i32⟩) main_call7_c) (constantI S_ 32 0#32),
    TRef.quaternary (TRef.of (T := ⟨S4096x4096, .f32⟩) main_v44) (TRef.of (T := ⟨S4096x4096, .i32⟩) main_call7_v0) (TRef.of (T := ⟨S_, .f32⟩) main_call7_cst) (TRef.of (T := ⟨S_, .i32⟩) main_call7_c) (TRef.of (T := ⟨S4096, .f32⟩) main_call7_v1_0) (fun x y u v j => (Host.argReduce reducer_argmin_f32_i32 x y u v reducesTo_S4096x4096_S4096_d1 h_S_ j).1),
    TRef.quaternary (TRef.of (T := ⟨S4096x4096, .f32⟩) main_v44) (TRef.of (T := ⟨S4096x4096, .i32⟩) main_call7_v0) (TRef.of (T := ⟨S_, .f32⟩) main_call7_cst) (TRef.of (T := ⟨S_, .i32⟩) main_call7_c) (TRef.of (T := ⟨S4096, .i32⟩) main_v45) (fun x y u v j => (Host.argReduce reducer_argmin_f32_i32 x y u v reducesTo_S4096x4096_S4096_d1 h_S_ j).2),
    nullary main_c_6 (constantI S_ 1 0#1),
    binary main_v41 main_c_6 main_v46 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    TRef.ternary (TRef.of (T := ⟨S4096, .i1⟩) main_v46) (TRef.of (T := ⟨S4096, .i32⟩) main_v43) (TRef.of (T := ⟨S4096, .i32⟩) main_v45) (TRef.of (T := ⟨S4096, .i32⟩) main_v47) select,
    TRef.nullary (TRef.of (T := ⟨S_, .i32⟩) main_call9_c) (constantI S_ 32 0#32),
    TRef.unary (TRef.of (T := ⟨S_, .i32⟩) main_call9_c) (TRef.of (T := ⟨S4096, .i32⟩) main_call9_v0) (broadcastInDim S4096 ![] bcast_S_S4096),
    TRef.binary (TRef.of (T := ⟨S4096, .i32⟩) main_v27) (TRef.of (T := ⟨S4096, .i32⟩) main_call9_v0) (TRef.of (T := ⟨S4096, .i1⟩) main_call9_v1) (cmpi .slt),
    TRef.nullary (TRef.of (T := ⟨S_, .i32⟩) main_call9_c_0) (constantI S_ 32 4096#32),
    TRef.unary (TRef.of (T := ⟨S_, .i32⟩) main_call9_c_0) (TRef.of (T := ⟨S4096, .i32⟩) main_call9_v2) (broadcastInDim S4096 ![] bcast_S_S4096),
    TRef.binary (TRef.of (T := ⟨S4096, .i32⟩) main_v27) (TRef.of (T := ⟨S4096, .i32⟩) main_call9_v2) (TRef.of (T := ⟨S4096, .i32⟩) main_call9_v3) addi,
    TRef.ternary (TRef.of (T := ⟨S4096, .i1⟩) main_call9_v1) (TRef.of (T := ⟨S4096, .i32⟩) main_call9_v3) (TRef.of (T := ⟨S4096, .i32⟩) main_v27) (TRef.of (T := ⟨S4096, .i32⟩) main_call9_v4) select,
    TRef.unary (TRef.of (T := ⟨S4096, .i32⟩) main_call9_v4) (TRef.of (T := ⟨S4096x1, .i32⟩) main_call9_v5) (broadcastInDim S4096x1 ![0] bcast_S4096_S4096x1_0),
    TRef.nullary (TRef.of (T := ⟨S1, .i32⟩) main_call9_c_1) (constantI S1 32 4095#32),
    TRef.nullary (TRef.of (T := ⟨S_, .i32⟩) main_call9_c_2) (constantI S_ 32 0#32),
    TRef.unary (TRef.of (T := ⟨S_, .i32⟩) main_call9_c_2) (TRef.of (T := ⟨S4096x1, .i32⟩) main_call9_v6) (broadcastInDim S4096x1 ![] bcast_S_S4096x1),
    TRef.binary (TRef.of (T := ⟨S4096x1, .i32⟩) main_call9_v5) (TRef.of (T := ⟨S4096x1, .i32⟩) main_call9_v6) (TRef.of (T := ⟨S4096x1, .i1⟩) main_call9_v7) (cmpi .sge),
    TRef.unary (TRef.of (T := ⟨S1, .i32⟩) main_call9_c_1) (TRef.of (T := ⟨S1x1, .i32⟩) main_call9_v8) (broadcastInDim S1x1 ![1] bcast_S1_S1x1_1),
    TRef.unary (TRef.of (T := ⟨S1x1, .i32⟩) main_call9_v8) (TRef.of (T := ⟨S4096x1, .i32⟩) main_call9_v9) (broadcastInDim S4096x1 ![0, 1] bcast_S1x1_S4096x1_0_1),
    TRef.binary (TRef.of (T := ⟨S4096x1, .i32⟩) main_call9_v5) (TRef.of (T := ⟨S4096x1, .i32⟩) main_call9_v9) (TRef.of (T := ⟨S4096x1, .i1⟩) main_call9_v10) (cmpi .sle),
    TRef.binary (TRef.of (T := ⟨S4096x1, .i1⟩) main_call9_v7) (TRef.of (T := ⟨S4096x1, .i1⟩) main_call9_v10) (TRef.of (T := ⟨S4096x1, .i1⟩) main_call9_v11) andi,
    TRef.nullary (TRef.of (T := ⟨S_, .i1⟩) main_call9_c_3) (constantI S_ 1 1#1),
    TRef.binary (TRef.of (T := ⟨S4096x1, .i1⟩) main_call9_v11) (TRef.of (T := ⟨S_, .i1⟩) main_call9_c_3) (TRef.of (T := ⟨S4096, .i1⟩) main_call9_v12) (fun x v => Host.reduce IntOp.andi x v reducesTo_S4096x1_S4096_d1 h_S_),
    TRef.binary (TRef.of (T := ⟨S4096x16, .f32⟩) main_arg0) (TRef.of (T := ⟨S4096x1, .i32⟩) main_call9_v5) (TRef.of (T := ⟨S4096x16, .f32⟩) main_call9_v13) (fun x i => Host.gather gather_S4096x16_S4096x1_S4096x16_1_0_n_n_0_1_116 x i),
    TRef.unary (TRef.of (T := ⟨S4096, .i1⟩) main_call9_v12) (TRef.of (T := ⟨S4096x16, .i1⟩) main_call9_v14) (broadcastInDim S4096x16 ![0] bcast_S4096_S4096x16_0),
    TRef.nullary (TRef.of (T := ⟨S_, .f32⟩) main_call9_cst) (constant S_ .f32 0x7FC00000#32),
    TRef.unary (TRef.of (T := ⟨S_, .f32⟩) main_call9_cst) (TRef.of (T := ⟨S4096x16, .f32⟩) main_call9_v15) (broadcastInDim S4096x16 ![] bcast_S_S4096x16) ]

/-- @main's operations 121 … 145 of 171 (window `main_part0`). -/
abbrev lines0_4 : List (HloOp τ sig (Elt F)) :=
  [ TRef.ternary (TRef.of (T := ⟨S4096x16, .i1⟩) main_call9_v14) (TRef.of (T := ⟨S4096x16, .f32⟩) main_call9_v13) (TRef.of (T := ⟨S4096x16, .f32⟩) main_call9_v15) (TRef.of (T := ⟨S4096x16, .f32⟩) main_v48) select,
    TRef.nullary (TRef.of (T := ⟨S_, .i32⟩) main_call10_c) (constantI S_ 32 0#32),
    TRef.unary (TRef.of (T := ⟨S_, .i32⟩) main_call10_c) (TRef.of (T := ⟨S4096, .i32⟩) main_call10_v0) (broadcastInDim S4096 ![] bcast_S_S4096),
    TRef.binary (TRef.of (T := ⟨S4096, .i32⟩) main_v47) (TRef.of (T := ⟨S4096, .i32⟩) main_call10_v0) (TRef.of (T := ⟨S4096, .i1⟩) main_call10_v1) (cmpi .slt),
    TRef.nullary (TRef.of (T := ⟨S_, .i32⟩) main_call10_c_0) (constantI S_ 32 4096#32),
    TRef.unary (TRef.of (T := ⟨S_, .i32⟩) main_call10_c_0) (TRef.of (T := ⟨S4096, .i32⟩) main_call10_v2) (broadcastInDim S4096 ![] bcast_S_S4096),
    TRef.binary (TRef.of (T := ⟨S4096, .i32⟩) main_v47) (TRef.of (T := ⟨S4096, .i32⟩) main_call10_v2) (TRef.of (T := ⟨S4096, .i32⟩) main_call10_v3) addi,
    TRef.ternary (TRef.of (T := ⟨S4096, .i1⟩) main_call10_v1) (TRef.of (T := ⟨S4096, .i32⟩) main_call10_v3) (TRef.of (T := ⟨S4096, .i32⟩) main_v47) (TRef.of (T := ⟨S4096, .i32⟩) main_call10_v4) select,
    TRef.unary (TRef.of (T := ⟨S4096, .i32⟩) main_call10_v4) (TRef.of (T := ⟨S4096x1, .i32⟩) main_call10_v5) (broadcastInDim S4096x1 ![0] bcast_S4096_S4096x1_0),
    TRef.nullary (TRef.of (T := ⟨S1, .i32⟩) main_call10_c_1) (constantI S1 32 4095#32),
    TRef.nullary (TRef.of (T := ⟨S_, .i32⟩) main_call10_c_2) (constantI S_ 32 0#32),
    TRef.unary (TRef.of (T := ⟨S_, .i32⟩) main_call10_c_2) (TRef.of (T := ⟨S4096x1, .i32⟩) main_call10_v6) (broadcastInDim S4096x1 ![] bcast_S_S4096x1),
    TRef.binary (TRef.of (T := ⟨S4096x1, .i32⟩) main_call10_v5) (TRef.of (T := ⟨S4096x1, .i32⟩) main_call10_v6) (TRef.of (T := ⟨S4096x1, .i1⟩) main_call10_v7) (cmpi .sge),
    TRef.unary (TRef.of (T := ⟨S1, .i32⟩) main_call10_c_1) (TRef.of (T := ⟨S1x1, .i32⟩) main_call10_v8) (broadcastInDim S1x1 ![1] bcast_S1_S1x1_1),
    TRef.unary (TRef.of (T := ⟨S1x1, .i32⟩) main_call10_v8) (TRef.of (T := ⟨S4096x1, .i32⟩) main_call10_v9) (broadcastInDim S4096x1 ![0, 1] bcast_S1x1_S4096x1_0_1),
    TRef.binary (TRef.of (T := ⟨S4096x1, .i32⟩) main_call10_v5) (TRef.of (T := ⟨S4096x1, .i32⟩) main_call10_v9) (TRef.of (T := ⟨S4096x1, .i1⟩) main_call10_v10) (cmpi .sle),
    TRef.binary (TRef.of (T := ⟨S4096x1, .i1⟩) main_call10_v7) (TRef.of (T := ⟨S4096x1, .i1⟩) main_call10_v10) (TRef.of (T := ⟨S4096x1, .i1⟩) main_call10_v11) andi,
    TRef.nullary (TRef.of (T := ⟨S_, .i1⟩) main_call10_c_3) (constantI S_ 1 1#1),
    TRef.binary (TRef.of (T := ⟨S4096x1, .i1⟩) main_call10_v11) (TRef.of (T := ⟨S_, .i1⟩) main_call10_c_3) (TRef.of (T := ⟨S4096, .i1⟩) main_call10_v12) (fun x v => Host.reduce IntOp.andi x v reducesTo_S4096x1_S4096_d1 h_S_),
    TRef.binary (TRef.of (T := ⟨S4096x16, .f32⟩) main_arg0) (TRef.of (T := ⟨S4096x1, .i32⟩) main_call10_v5) (TRef.of (T := ⟨S4096x16, .f32⟩) main_call10_v13) (fun x i => Host.gather gather_S4096x16_S4096x1_S4096x16_1_0_n_n_0_1_116 x i),
    TRef.unary (TRef.of (T := ⟨S4096, .i1⟩) main_call10_v12) (TRef.of (T := ⟨S4096x16, .i1⟩) main_call10_v14) (broadcastInDim S4096x16 ![0] bcast_S4096_S4096x16_0),
    TRef.nullary (TRef.of (T := ⟨S_, .f32⟩) main_call10_cst) (constant S_ .f32 0x7FC00000#32),
    TRef.unary (TRef.of (T := ⟨S_, .f32⟩) main_call10_cst) (TRef.of (T := ⟨S4096x16, .f32⟩) main_call10_v15) (broadcastInDim S4096x16 ![] bcast_S_S4096x16),
    TRef.ternary (TRef.of (T := ⟨S4096x16, .i1⟩) main_call10_v14) (TRef.of (T := ⟨S4096x16, .f32⟩) main_call10_v13) (TRef.of (T := ⟨S4096x16, .f32⟩) main_call10_v15) (TRef.of (T := ⟨S4096x16, .f32⟩) main_v49) select,
    binary main_arg0 main_v48 main_v50 (subf : (⟨S4096x16, .f32⟩ : BufTy).Contents (Elt F) → (⟨S4096x16, .f32⟩ : BufTy).Contents (Elt F) → (⟨S4096x16, .f32⟩ : BufTy).Contents (Elt F)) ]

/-- Window `main_part0`'s operations. Not an abbreviation: `main_eq` below splits `ops` into the windows and no further. -/
def lines0 : List (HloOp τ sig (Elt F)) :=
  lines0_0 ++ (lines0_1 ++ (lines0_2 ++ (lines0_3 ++ (lines0_4))))

/-- @main's operations 146 … 171 of 171 (window `main_part1`). -/
abbrev lines1 : List (HloOp τ sig (Elt F)) :=
  [ binary main_v50 main_v50 main_v51 (mulf : (⟨S4096x16, .f32⟩ : BufTy).Contents (Elt F) → (⟨S4096x16, .f32⟩ : BufTy).Contents (Elt F) → (⟨S4096x16, .f32⟩ : BufTy).Contents (Elt F)),
    nullary main_cst_7 (constant S_ .f32 0x00000000#32),
    binary main_v51 main_cst_7 main_v52 ((fun x v => Host.reduceAdd x v reducesTo_S4096x16_S4096_d1 h_S_) : (⟨S4096x16, .f32⟩ : BufTy).Contents (Elt F) → (⟨S_, .f32⟩ : BufTy).Contents (Elt F) → (⟨S4096, .f32⟩ : BufTy).Contents (Elt F)),
    nullary main_cst_8 (constant S_ .f32 0x2B8CBCCC#32),
    unary main_cst_8 main_v53 (broadcastInDim S4096 ![] bcast_S_S4096 : (⟨S_, .f32⟩ : BufTy).Contents (Elt F) → (⟨S4096, .f32⟩ : BufTy).Contents (Elt F)),
    binary main_v52 main_v53 main_v54 (addf : (⟨S4096, .f32⟩ : BufTy).Contents (Elt F) → (⟨S4096, .f32⟩ : BufTy).Contents (Elt F) → (⟨S4096, .f32⟩ : BufTy).Contents (Elt F)),
    unary main_v54 main_v55 (Host.sqrt : (⟨S4096, .f32⟩ : BufTy).Contents (Elt F) → (⟨S4096, .f32⟩ : BufTy).Contents (Elt F)),
    binary main_arg0 main_v49 main_v56 (subf : (⟨S4096x16, .f32⟩ : BufTy).Contents (Elt F) → (⟨S4096x16, .f32⟩ : BufTy).Contents (Elt F) → (⟨S4096x16, .f32⟩ : BufTy).Contents (Elt F)),
    binary main_v56 main_v56 main_v57 (mulf : (⟨S4096x16, .f32⟩ : BufTy).Contents (Elt F) → (⟨S4096x16, .f32⟩ : BufTy).Contents (Elt F) → (⟨S4096x16, .f32⟩ : BufTy).Contents (Elt F)),
    nullary main_cst_9 (constant S_ .f32 0x00000000#32),
    binary main_v57 main_cst_9 main_v58 ((fun x v => Host.reduceAdd x v reducesTo_S4096x16_S4096_d1 h_S_) : (⟨S4096x16, .f32⟩ : BufTy).Contents (Elt F) → (⟨S_, .f32⟩ : BufTy).Contents (Elt F) → (⟨S4096, .f32⟩ : BufTy).Contents (Elt F)),
    nullary main_cst_10 (constant S_ .f32 0x2B8CBCCC#32),
    unary main_cst_10 main_v59 (broadcastInDim S4096 ![] bcast_S_S4096 : (⟨S_, .f32⟩ : BufTy).Contents (Elt F) → (⟨S4096, .f32⟩ : BufTy).Contents (Elt F)),
    binary main_v58 main_v59 main_v60 (addf : (⟨S4096, .f32⟩ : BufTy).Contents (Elt F) → (⟨S4096, .f32⟩ : BufTy).Contents (Elt F) → (⟨S4096, .f32⟩ : BufTy).Contents (Elt F)),
    unary main_v60 main_v61 (Host.sqrt : (⟨S4096, .f32⟩ : BufTy).Contents (Elt F) → (⟨S4096, .f32⟩ : BufTy).Contents (Elt F)),
    binary main_v55 main_v61 main_v62 (subf : (⟨S4096, .f32⟩ : BufTy).Contents (Elt F) → (⟨S4096, .f32⟩ : BufTy).Contents (Elt F) → (⟨S4096, .f32⟩ : BufTy).Contents (Elt F)),
    nullary main_cst_11 (constant S_ .f32 0x3F800000#32),
    unary main_cst_11 main_v63 (broadcastInDim S4096 ![] bcast_S_S4096 : (⟨S_, .f32⟩ : BufTy).Contents (Elt F) → (⟨S4096, .f32⟩ : BufTy).Contents (Elt F)),
    binary main_v62 main_v63 main_v64 (addf : (⟨S4096, .f32⟩ : BufTy).Contents (Elt F) → (⟨S4096, .f32⟩ : BufTy).Contents (Elt F) → (⟨S4096, .f32⟩ : BufTy).Contents (Elt F)),
    nullary main_cst_12 (constant S_ .f32 0x00000000#32),
    unary main_cst_12 main_v65 (broadcastInDim S4096 ![] bcast_S_S4096 : (⟨S_, .f32⟩ : BufTy).Contents (Elt F) → (⟨S4096, .f32⟩ : BufTy).Contents (Elt F)),
    binary main_v64 main_v65 main_v66 (maximumf : (⟨S4096, .f32⟩ : BufTy).Contents (Elt F) → (⟨S4096, .f32⟩ : BufTy).Contents (Elt F) → (⟨S4096, .f32⟩ : BufTy).Contents (Elt F)),
    nullary main_cst_13 (constant S_ .f32 0x00000000#32),
    binary main_v66 main_cst_13 main_v67 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_14 (constant S_ .f32 0x45800000#32),
    binary main_v67 main_cst_14 main_v68 (Host.divf : (⟨S_, .f32⟩ : BufTy).Contents (Elt F) → (⟨S_, .f32⟩ : BufTy).Contents (Elt F) → (⟨S_, .f32⟩ : BufTy).Contents (Elt F)) ]

/-- @main's 171 operations, in order (a called function's operations stand in its call's place, spelt `TRef.…`). -/
abbrev ops : List (HloOp τ sig (Elt F)) :=
  lines0 ++ (lines1)

set_option maxRecDepth 8192 in
set_option maxHeartbeats 4000000 in
/-- This part of the program is its operations in a row. -/
theorem main_part0_eq (c : Dev nD) : main_part0 (F := F) c = seq lines0 := rfl
set_option maxRecDepth 8192 in
/-- This part of the program is its operations in a row. -/
theorem main_part1_eq (c : Dev nD) : main_part1 (F := F) c = seq lines1 := rfl
set_option maxRecDepth 8192 in
/-- The program is its operations in a row. -/
theorem main_eq (c : Dev nD) : main (F := F) c = seq ops := by
  simp only [ops, seq_append, ← main_part0_eq c, ← main_part1_eq c]
  rfl
/-- The program has no scoped buffer. -/
theorem scopedRefs_eq : (Finset.univ.filter fun b : Ref sig .tc => b.isScoped) = ∅ := by decide
/-- The program has no scoped counter. -/
theorem scopedSems_eq : (Finset.univ.filter fun sm : SemLoc sig => sm.isScoped .tc) = ∅ := by decide
set_option maxRecDepth 8192 in
/-- These operations work on the buffers of the core. -/
theorem lines0_0_sub : (lines0_0 : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., unary_bufs_sub .., binary_bufs_sub .., unary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub ..⟩
set_option maxRecDepth 8192 in
/-- These operations take no fresh buffer. -/
theorem lines0_0_fresh : (lines0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations work on the buffers of the core. -/
theorem lines0_1_sub : (lines0_1 : List (HloOp τ sig (Elt F))).Forall fun op => op.bufs ⊆ tcRefs τ sig :=
  ⟨unary_bufs_sub .., binary_bufs_sub .., nullary_bufs_sub .., unary_bufs_sub .., unary_bufs_sub .., ternary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub ..⟩
set_option maxRecDepth 8192 in
/-- These operations take no fresh buffer. -/
theorem lines0_1_fresh : (lines0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations work on the buffers of the core. -/
theorem lines0_2_sub : (lines0_2 : List (HloOp τ sig (Elt F))).Forall fun op => op.bufs ⊆ tcRefs τ sig :=
  ⟨binary_bufs_sub .., nullary_bufs_sub .., unary_bufs_sub .., ternary_bufs_sub .., reshape_bufs_sub .., unary_bufs_sub .., unary_bufs_sub .., unary_bufs_sub .., binary_bufs_sub .., binary_bufs_sub .., unary_bufs_sub .., nullary_bufs_sub .., unary_bufs_sub .., binary_bufs_sub .., unary_bufs_sub .., binary_bufs_sub .., binary_bufs_sub .., nullary_bufs_sub .., unary_bufs_sub .., unary_bufs_sub .., ternary_bufs_sub .., nullary_bufs_sub .., nullary_bufs_sub .., nullary_bufs_sub .., quaternary_bufs_sub .., quaternary_bufs_sub .., nullary_bufs_sub .., unary_bufs_sub .., unary_bufs_sub .., ternary_bufs_sub ..⟩
set_option maxRecDepth 8192 in
/-- These operations take no fresh buffer. -/
theorem lines0_2_fresh : (lines0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations work on the buffers of the core. -/
theorem lines0_3_sub : (lines0_3 : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub ..⟩
set_option maxRecDepth 8192 in
/-- These operations take no fresh buffer. -/
theorem lines0_3_fresh : (lines0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations work on the buffers of the core. -/
theorem lines0_4_sub : (lines0_4 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩
set_option maxRecDepth 8192 in
/-- These operations take no fresh buffer. -/
theorem lines0_4_fresh : (lines0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations work on the buffers of the core. -/
theorem lines1_sub : (lines1 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub ..⟩
set_option maxRecDepth 8192 in
/-- These operations take no fresh buffer. -/
theorem lines1_fresh : (lines1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
/-- Every operation works on the buffers of the core. -/
theorem ops_sub : (ops : List (HloOp τ sig (Elt F))).Forall fun op => op.bufs ⊆ tcRefs τ sig :=
  List.forall_iff_forall_mem.mpr fun op h => by
    simp only [ops, lines0, List.mem_append, or_assoc] at h
    rcases h with h | h | h | h | h | h
    exacts [List.forall_iff_forall_mem.mp lines0_0_sub op h, List.forall_iff_forall_mem.mp lines0_1_sub op h, List.forall_iff_forall_mem.mp lines0_2_sub op h, List.forall_iff_forall_mem.mp lines0_3_sub op h, List.forall_iff_forall_mem.mp lines0_4_sub op h, List.forall_iff_forall_mem.mp lines1_sub op h]
/-- No operation takes a fresh buffer. -/
theorem ops_fresh : ∀ op ∈ (ops : List (HloOp τ sig (Elt F))), op.fresh = ∅ := fun op h => by
    simp only [ops, lines0, List.mem_append, or_assoc] at h
    rcases h with h | h | h | h | h | h
    exacts [List.forall_iff_forall_mem.mp lines0_0_fresh op h, List.forall_iff_forall_mem.mp lines0_1_fresh op h, List.forall_iff_forall_mem.mp lines0_2_fresh op h, List.forall_iff_forall_mem.mp lines0_3_fresh op h, List.forall_iff_forall_mem.mp lines0_4_fresh op h, List.forall_iff_forall_mem.mp lines1_fresh op h]

set_option maxRecDepth 8192 in
/-- The squared norm of every row. -/
def rowSq (V0 : Valuation τ sig (Elt F)) : (Proc.devRef .tc main_v1 : DevRef τ sig).ty.Contents (Elt F) :=
  Host.reduceAdd (mulf (V0 (Proc.devRef .tc main_arg0)) (V0 (Proc.devRef .tc main_arg0))) (constant S_ .f32 0x00000000#32) reducesTo_S4096x16_S4096_d1 h_S_

set_option maxRecDepth 8192 in
/-- The distance of every pair of rows. -/
def pairDist (V0 : Valuation τ sig (Elt F)) : (Proc.devRef .tc main_v13 : DevRef τ sig).ty.Contents (Elt F) :=
  Host.sqrt (maximumf (broadcastInDim S4096x4096 ![] bcast_S_S4096x4096 (id (constant S_ .f32 0x00000000#32))) (subf (addf (broadcastInDim S4096x4096 ![0, 1] bcast_S4096x1_S4096x4096_0_1 (broadcastInDim S4096x1 ![0] bcast_S4096_S4096x1_0 (rowSq V0))) (broadcastInDim S4096x4096 ![0, 1] bcast_S1x4096_S4096x4096_0_1 (broadcastInDim S1x4096 ![1] bcast_S4096_S1x4096_1 (rowSq V0)))) (mulf (broadcastInDim S4096x4096 ![] bcast_S_S4096x4096 (constant S_ .f32 0x40000000#32)) (Host.dotGeneral dot_S4096x16_S16x4096_S4096x4096_1_0_0_1_n_n none (V0 (Proc.devRef .tc main_arg0)) (transpose S16x4096 [1, 0] (V0 (Proc.devRef .tc main_arg0)) transposes_S4096x16_S16x4096_1_0)))))

set_option maxRecDepth 8192 in
/-- Whether two rows have the same label. -/
def sameLabel (V0 : Valuation τ sig (Elt F)) : (Proc.devRef .tc main_v18 : DevRef τ sig).ty.Contents (Elt F) :=
  cmpi .eq (broadcastInDim S4096x4096 ![0, 1] bcast_S4096x1_S4096x4096_0_1 (broadcastInDim S4096x1 ![0] bcast_S4096_S4096x1_0 (V0 (Proc.devRef .tc main_arg1)))) (broadcastInDim S4096x4096 ![0, 1] bcast_S1x4096_S4096x4096_0_1 (broadcastInDim S1x4096 ![1] bcast_S4096_S1x4096_1 (V0 (Proc.devRef .tc main_arg1))))

set_option maxRecDepth 8192 in
/-- The distances with everything but the positives masked out. -/
def posCand (V0 : Valuation τ sig (Elt F)) : (Proc.devRef .tc main_v26 : DevRef τ sig).ty.Contents (Elt F) :=
  select (andi (sameLabel V0) (noti (cmpi .eq (addi (iotaInDim S4096x4096 32 0) (broadcastInDim S4096x4096 ![] bcast_S_S4096x4096 (constantI S_ 32 0#32))) (iotaInDim S4096x4096 32 1)))) (pairDist V0) (broadcastInDim S4096x4096 ![] bcast_S_S4096x4096 (id (constant S_ .f32 0x4E6E6B28#32)))

set_option maxRecDepth 8192 in
/-- The nearest positive of every row. -/
def posIdx (V0 : Valuation τ sig (Elt F)) : (Proc.devRef .tc main_v27 : DevRef τ sig).ty.Contents (Elt F) :=
  (fun j => (Host.argReduce reducer_argmin_f32_i32 (posCand V0) (iotaInDim S4096x4096 32 1) (constant S_ .f32 0x7F800000#32) (constantI S_ 32 0#32) reducesTo_S4096x4096_S4096_d1 h_S_ j).2)

set_option maxRecDepth 8192 in
/-- The nearest positives as a column. -/
def posIdxCol (V0 : Valuation τ sig (Elt F)) : (Proc.devRef .tc main_v28 : DevRef τ sig).ty.Contents (Elt F) :=
  broadcastInDim S4096x1 ![0] bcast_S4096_S4096x1_0 (posIdx V0)

set_option maxRecDepth 8192 in
/-- The same positions, brought into range, as the gather takes them. -/
def posAt3 (V0 : Valuation τ sig (Elt F)) : (Proc.devRef .tc main_call3_v5 : DevRef τ sig).ty.Contents (Elt F) :=
  shapeCast _ (select (cmpi .slt (posIdxCol V0) (broadcastInDim S4096x1 ![] bcast_S_S4096x1 (constantI S_ 32 0#32))) (addi (posIdxCol V0) (broadcastInDim S4096x1 ![] bcast_S_S4096x1 (constantI S_ 32 4096#32))) (posIdxCol V0)) shapeCasts_S4096x1_S4096x1x1

set_option maxRecDepth 8192 in
/-- The distance of every row to its nearest positive. -/
def posDist (V0 : Valuation τ sig (Elt F)) : (Proc.devRef .tc main_v30 : DevRef τ sig).ty.Contents (Elt F) :=
  shapeCast _ (select (Host.reduce IntOp.andi (andi (cmpi .sge (posAt3 V0) (broadcastInDim S4096x1x1 ![] bcast_S_S4096x1x1 (constantI S_ 32 0#32))) (cmpi .sle (posAt3 V0) (broadcastInDim S4096x1x1 ![0, 1, 2] bcast_S1x1x1_S4096x1x1_0_1_2 (broadcastInDim S1x1x1 ![2] bcast_S1_S1x1x1_2 (constantI S1 32 4095#32))))) (constantI S_ 1 1#1) reducesTo_S4096x1x1_S4096x1_d2 h_S_) (Host.gather gather_S4096x4096_S4096x1x1_S4096x1_n_1_0_0_1_2_11 (pairDist V0) (posAt3 V0)) (broadcastInDim S4096x1 ![] bcast_S_S4096x1 (constant S_ .f32 0x7FC00000#32))) shapeCasts_S4096x1_S4096

set_option maxRecDepth 8192 in
/-- Whether two rows have different labels. -/
def otherLabel (V0 : Valuation τ sig (Elt F)) : (Proc.devRef .tc main_v31 : DevRef τ sig).ty.Contents (Elt F) :=
  noti (sameLabel V0)

set_option maxRecDepth 8192 in
/-- The semi-hard negatives. -/
def semiMask (V0 : Valuation τ sig (Elt F)) : (Proc.devRef .tc main_v41 : DevRef τ sig).ty.Contents (Elt F) :=
  andi (andi (otherLabel V0) (cmpf .ogt (pairDist V0) (broadcastInDim S4096x4096 ![0, 1] bcast_S4096x1_S4096x4096_0_1 (broadcastInDim S4096x1 ![0] bcast_S4096_S4096x1_0 (posDist V0))))) (cmpf .olt (pairDist V0) (broadcastInDim S4096x4096 ![0, 1] bcast_S4096x1_S4096x4096_0_1 (addf (broadcastInDim S4096x1 ![0] bcast_S4096_S4096x1_0 (posDist V0)) (broadcastInDim S4096x1 ![] bcast_S_S4096x1 (constant S_ .f32 0x3F800000#32)))))

set_option maxRecDepth 8192 in
/-- The distances with everything but the semi-hard negatives masked out. -/
def semiCand (V0 : Valuation τ sig (Elt F)) : (Proc.devRef .tc main_v42 : DevRef τ sig).ty.Contents (Elt F) :=
  select (semiMask V0) (pairDist V0) (broadcastInDim S4096x4096 ![] bcast_S_S4096x4096 (id (constant S_ .f32 0x4E6E6B28#32)))

set_option maxRecDepth 8192 in
/-- The distances with everything but the negatives masked out. -/
def hardCand (V0 : Valuation τ sig (Elt F)) : (Proc.devRef .tc main_v44 : DevRef τ sig).ty.Contents (Elt F) :=
  select (otherLabel V0) (pairDist V0) (broadcastInDim S4096x4096 ![] bcast_S_S4096x4096 (id (constant S_ .f32 0x4E6E6B28#32)))

set_option maxRecDepth 8192 in
/-- The negative taken for every row. -/
def negIdx (V0 : Valuation τ sig (Elt F)) : (Proc.devRef .tc main_v47 : DevRef τ sig).ty.Contents (Elt F) :=
  select (Host.reduce IntOp.ori (semiMask V0) (constantI S_ 1 0#1) reducesTo_S4096x4096_S4096_d1 h_S_) ((fun j => (Host.argReduce reducer_argmin_f32_i32 (semiCand V0) (iotaInDim S4096x4096 32 1) (constant S_ .f32 0x7F800000#32) (constantI S_ 32 0#32) reducesTo_S4096x4096_S4096_d1 h_S_ j).2)) ((fun j => (Host.argReduce reducer_argmin_f32_i32 (hardCand V0) (iotaInDim S4096x4096 32 1) (constant S_ .f32 0x7F800000#32) (constantI S_ 32 0#32) reducesTo_S4096x4096_S4096_d1 h_S_ j).2))

set_option maxRecDepth 8192 in
/-- The positives as the row gather takes them. -/
def posAt (V0 : Valuation τ sig (Elt F)) : (Proc.devRef .tc main_call9_v5 : DevRef τ sig).ty.Contents (Elt F) :=
  broadcastInDim S4096x1 ![0] bcast_S4096_S4096x1_0 (select (cmpi .slt (posIdx V0) (broadcastInDim S4096 ![] bcast_S_S4096 (constantI S_ 32 0#32))) (addi (posIdx V0) (broadcastInDim S4096 ![] bcast_S_S4096 (constantI S_ 32 4096#32))) (posIdx V0))

set_option maxRecDepth 8192 in
/-- The negatives as the row gather takes them. -/
def negAt (V0 : Valuation τ sig (Elt F)) : (Proc.devRef .tc main_call10_v5 : DevRef τ sig).ty.Contents (Elt F) :=
  broadcastInDim S4096x1 ![0] bcast_S4096_S4096x1_0 (select (cmpi .slt (negIdx V0) (broadcastInDim S4096 ![] bcast_S_S4096 (constantI S_ 32 0#32))) (addi (negIdx V0) (broadcastInDim S4096 ![] bcast_S_S4096 (constantI S_ 32 4096#32))) (negIdx V0))

set_option maxRecDepth 8192 in
/-- Every row less its positive. -/
def posDiff (V0 : Valuation τ sig (Elt F)) : (Proc.devRef .tc main_v50 : DevRef τ sig).ty.Contents (Elt F) :=
  subf (V0 (Proc.devRef .tc main_arg0)) (select (broadcastInDim S4096x16 ![0] bcast_S4096_S4096x16_0 (Host.reduce IntOp.andi (andi (cmpi .sge (posAt V0) (broadcastInDim S4096x1 ![] bcast_S_S4096x1 (constantI S_ 32 0#32))) (cmpi .sle (posAt V0) (broadcastInDim S4096x1 ![0, 1] bcast_S1x1_S4096x1_0_1 (broadcastInDim S1x1 ![1] bcast_S1_S1x1_1 (constantI S1 32 4095#32))))) (constantI S_ 1 1#1) reducesTo_S4096x1_S4096_d1 h_S_)) (Host.gather gather_S4096x16_S4096x1_S4096x16_1_0_n_n_0_1_116 (V0 (Proc.devRef .tc main_arg0)) (posAt V0)) (broadcastInDim S4096x16 ![] bcast_S_S4096x16 (constant S_ .f32 0x7FC00000#32)))

set_option maxRecDepth 8192 in
/-- Every row less its negative. -/
def negDiff (V0 : Valuation τ sig (Elt F)) : (Proc.devRef .tc main_v56 : DevRef τ sig).ty.Contents (Elt F) :=
  subf (V0 (Proc.devRef .tc main_arg0)) (select (broadcastInDim S4096x16 ![0] bcast_S4096_S4096x16_0 (Host.reduce IntOp.andi (andi (cmpi .sge (negAt V0) (broadcastInDim S4096x1 ![] bcast_S_S4096x1 (constantI S_ 32 0#32))) (cmpi .sle (negAt V0) (broadcastInDim S4096x1 ![0, 1] bcast_S1x1_S4096x1_0_1 (broadcastInDim S1x1 ![1] bcast_S1_S1x1_1 (constantI S1 32 4095#32))))) (constantI S_ 1 1#1) reducesTo_S4096x1_S4096_d1 h_S_)) (Host.gather gather_S4096x16_S4096x1_S4096x16_1_0_n_n_0_1_116 (V0 (Proc.devRef .tc main_arg0)) (negAt V0)) (broadcastInDim S4096x16 ![] bcast_S_S4096x16 (constant S_ .f32 0x7FC00000#32)))

/-- The device's buffer contents before @main's first window. -/
def mem0 (V0 : Valuation τ sig (Elt F)) : Valuation τ sig (Elt F) := V0
/-- What `main_arg0` holds there. -/
theorem mem0_main_arg0 (V0 : Valuation τ sig (Elt F)) : mem0 V0 (no_index (Proc.devRef .tc main_arg0)) = V0 (Proc.devRef .tc main_arg0) := rfl
/-- What `main_arg1` holds there. -/
theorem mem0_main_arg1 (V0 : Valuation τ sig (Elt F)) : mem0 V0 (no_index (Proc.devRef .tc main_arg1)) = V0 (Proc.devRef .tc main_arg1) := rfl

/-- The device's buffer contents after @main's first 30 operations. -/
def mem0_1 (V0 : Valuation τ sig (Elt F)) : Valuation τ sig (Elt F) := after lines0_0 (mem0 V0)
/-- The buffers that window `lines0_0`'s operations write. -/
abbrev lines0_0_W : List (Ref sig .tc) := [main_v0, main_cst, main_v1, main_v2, main_v3, main_v4, main_v5, main_v6, main_v7, main_v8, main_cst_0, main_v9, main_v10, main_v11, main_cst_1, main_call0_v0, main_call0_v1, main_v12, main_v13, main_v14, main_v15, main_v16, main_v17, main_v18, main_v19, main_v20, main_c, main_v21, main_v22, main_v23]
set_option maxRecDepth 8192 in
/-- These operations write only the buffers listed. -/
theorem lines0_0_writes : (lines0_0 : List (HloOp τ sig (Elt F))).Forall fun op => op.writes ⊆ (lines0_0_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `lines0_0` does not write keeps its contents through it. -/
theorem mem0_1_keep (V0 : Valuation τ sig (Elt F)) (r : Ref sig .tc) (h : r ∉ lines0_0_W) :
    mem0_1 V0 (Proc.devRef .tc r) = mem0 V0 (Proc.devRef .tc r) :=
  after_of_writes_sub lines0_0 _ lines0_0_writes h
/-- What `main_arg0` holds there. -/
theorem mem0_1_main_arg0 (V0 : Valuation τ sig (Elt F)) : mem0_1 V0 (no_index (Proc.devRef .tc main_arg0)) = V0 (Proc.devRef .tc main_arg0) :=
  (mem0_1_keep V0 main_arg0 (by decide)).trans (mem0_main_arg0 V0)
/-- What `main_arg1` holds there. -/
theorem mem0_1_main_arg1 (V0 : Valuation τ sig (Elt F)) : mem0_1 V0 (no_index (Proc.devRef .tc main_arg1)) = V0 (Proc.devRef .tc main_arg1) :=
  (mem0_1_keep V0 main_arg1 (by decide)).trans (mem0_main_arg1 V0)
set_option maxRecDepth 8192 in
set_option maxHeartbeats 2000000 in
/-- What `main_v13` holds there. -/
theorem mem0_1_main_v13 (V0 : Valuation τ sig (Elt F)) : mem0_1 V0 (no_index (Proc.devRef .tc main_v13)) = pairDist V0 := by
  unfold mem0_1
  simp only [lines0_0, TRef.binary, TRef.unary, TRef.toBuf, TRef.ofBuf, cast_eq]
  after_results_simp
  simp only [mem0_main_arg0] <;> rfl
set_option maxRecDepth 8192 in
set_option maxHeartbeats 2000000 in
/-- What `main_v18` holds there. -/
theorem mem0_1_main_v18 (V0 : Valuation τ sig (Elt F)) : mem0_1 V0 (no_index (Proc.devRef .tc main_v18)) = sameLabel V0 := by
  unfold mem0_1
  simp only [lines0_0, TRef.binary, TRef.unary, TRef.toBuf, TRef.ofBuf, cast_eq]
  after_results_simp
  simp only [mem0_main_arg1] <;> rfl
set_option maxRecDepth 8192 in
set_option maxHeartbeats 2000000 in
/-- What `main_v23` holds there. -/
theorem mem0_1_main_v23 (V0 : Valuation τ sig (Elt F)) : mem0_1 V0 (no_index (Proc.devRef .tc main_v23)) = cmpi .eq (addi (iotaInDim S4096x4096 32 0) (broadcastInDim S4096x4096 ![] bcast_S_S4096x4096 (constantI S_ 32 0#32))) (iotaInDim S4096x4096 32 1) := by
  unfold mem0_1
  simp only [lines0_0, TRef.binary, TRef.unary, TRef.toBuf, TRef.ofBuf, cast_eq]
  after_results_simp
  all_goals rfl

/-- The device's buffer contents after @main's first 60 operations. -/
def mem0_2 (V0 : Valuation τ sig (Elt F)) : Valuation τ sig (Elt F) := after lines0_1 (mem0_1 V0)
/-- The buffers that window `lines0_1`'s operations write. -/
abbrev lines0_1_W : List (Ref sig .tc) := [main_v24, main_v25, main_cst_2, main_call1_v0, main_call1_v1, main_v26, main_call2_v0, main_call2_cst, main_call2_c, main_call2_v1_0, main_v27, main_v28, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12]
set_option maxRecDepth 8192 in
/-- These operations write only the buffers listed. -/
theorem lines0_1_writes : (lines0_1 : List (HloOp τ sig (Elt F))).Forall fun op => op.writes ⊆ (lines0_1_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `lines0_1` does not write keeps its contents through it. -/
theorem mem0_2_keep (V0 : Valuation τ sig (Elt F)) (r : Ref sig .tc) (h : r ∉ lines0_1_W) :
    mem0_2 V0 (Proc.devRef .tc r) = mem0_1 V0 (Proc.devRef .tc r) :=
  after_of_writes_sub lines0_1 _ lines0_1_writes h
/-- What `main_arg0` holds there. -/
theorem mem0_2_main_arg0 (V0 : Valuation τ sig (Elt F)) : mem0_2 V0 (no_index (Proc.devRef .tc main_arg0)) = V0 (Proc.devRef .tc main_arg0) :=
  (mem0_2_keep V0 main_arg0 (by decide)).trans (mem0_1_main_arg0 V0)
/-- What `main_arg1` holds there. -/
theorem mem0_2_main_arg1 (V0 : Valuation τ sig (Elt F)) : mem0_2 V0 (no_index (Proc.devRef .tc main_arg1)) = V0 (Proc.devRef .tc main_arg1) :=
  (mem0_2_keep V0 main_arg1 (by decide)).trans (mem0_1_main_arg1 V0)
/-- What `main_v13` holds there. -/
theorem mem0_2_main_v13 (V0 : Valuation τ sig (Elt F)) : mem0_2 V0 (no_index (Proc.devRef .tc main_v13)) = pairDist V0 :=
  (mem0_2_keep V0 main_v13 (by decide)).trans (mem0_1_main_v13 V0)
/-- What `main_v18` holds there. -/
theorem mem0_2_main_v18 (V0 : Valuation τ sig (Elt F)) : mem0_2 V0 (no_index (Proc.devRef .tc main_v18)) = sameLabel V0 :=
  (mem0_2_keep V0 main_v18 (by decide)).trans (mem0_1_main_v18 V0)
set_option maxRecDepth 8192 in
set_option maxHeartbeats 2000000 in
/-- What `main_v27` holds there. -/
theorem mem0_2_main_v27 (V0 : Valuation τ sig (Elt F)) : mem0_2 V0 (no_index (Proc.devRef .tc main_v27)) = posIdx V0 := by
  unfold mem0_2
  simp only [lines0_1, TRef.binary, TRef.nullary, TRef.quaternary, TRef.reshape, TRef.ternary, TRef.unary, TRef.toBuf, TRef.ofBuf, cast_eq]
  after_results_simp
  simp only [mem0_1_main_v13, mem0_1_main_v23, mem0_1_main_v18] <;> rfl
set_option maxRecDepth 8192 in
set_option maxHeartbeats 2000000 in
/-- What `main_call3_v5` holds there. -/
theorem mem0_2_main_call3_v5 (V0 : Valuation τ sig (Elt F)) : mem0_2 V0 (no_index (Proc.devRef .tc main_call3_v5)) = posAt3 V0 := by
  unfold mem0_2
  simp only [lines0_1, TRef.binary, TRef.nullary, TRef.quaternary, TRef.reshape, TRef.ternary, TRef.unary, TRef.toBuf, TRef.ofBuf, cast_eq]
  after_results_simp
  simp only [mem0_1_main_v13, mem0_1_main_v23, mem0_1_main_v18] <;> rfl
set_option maxRecDepth 8192 in
set_option maxHeartbeats 2000000 in
/-- What `main_call3_v12` holds there. -/
theorem mem0_2_main_call3_v12 (V0 : Valuation τ sig (Elt F)) : mem0_2 V0 (no_index (Proc.devRef .tc main_call3_v12)) = Host.reduce IntOp.andi (andi (cmpi .sge (posAt3 V0) (broadcastInDim S4096x1x1 ![] bcast_S_S4096x1x1 (constantI S_ 32 0#32))) (cmpi .sle (posAt3 V0) (broadcastInDim S4096x1x1 ![0, 1, 2] bcast_S1x1x1_S4096x1x1_0_1_2 (broadcastInDim S1x1x1 ![2] bcast_S1_S1x1x1_2 (constantI S1 32 4095#32))))) (constantI S_ 1 1#1) reducesTo_S4096x1x1_S4096x1_d2 h_S_ := by
  unfold mem0_2
  simp only [lines0_1, TRef.binary, TRef.nullary, TRef.quaternary, TRef.reshape, TRef.ternary, TRef.unary, TRef.toBuf, TRef.ofBuf, cast_eq]
  after_results_simp
  simp only [mem0_1_main_v13, mem0_1_main_v23, mem0_1_main_v18] <;> rfl

/-- The device's buffer contents after @main's first 90 operations. -/
def mem0_3 (V0 : Valuation τ sig (Elt F)) : Valuation τ sig (Elt F) := after lines0_2 (mem0_2 V0)
/-- The buffers that window `lines0_2`'s operations write. -/
abbrev lines0_2_W : List (Ref sig .tc) := [main_call3_v13, main_call3_cst, main_call3_v14, main_v29, main_v30, main_v31, main_v32, main_v33, main_v34, main_v35, main_v36, main_cst_3, main_v37, main_v38, main_v39, main_v40, main_v41, main_cst_4, main_call4_v0, main_call4_v1, main_v42, main_call5_v0, main_call5_cst, main_call5_c, main_call5_v1_0, main_v43, main_cst_5, main_call6_v0, main_call6_v1, main_v44]
set_option maxRecDepth 8192 in
/-- These operations write only the buffers listed. -/
theorem lines0_2_writes : (lines0_2 : List (HloOp τ sig (Elt F))).Forall fun op => op.writes ⊆ (lines0_2_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `lines0_2` does not write keeps its contents through it. -/
theorem mem0_3_keep (V0 : Valuation τ sig (Elt F)) (r : Ref sig .tc) (h : r ∉ lines0_2_W) :
    mem0_3 V0 (Proc.devRef .tc r) = mem0_2 V0 (Proc.devRef .tc r) :=
  after_of_writes_sub lines0_2 _ lines0_2_writes h
/-- What `main_arg0` holds there. -/
theorem mem0_3_main_arg0 (V0 : Valuation τ sig (Elt F)) : mem0_3 V0 (no_index (Proc.devRef .tc main_arg0)) = V0 (Proc.devRef .tc main_arg0) :=
  (mem0_3_keep V0 main_arg0 (by decide)).trans (mem0_2_main_arg0 V0)
/-- What `main_arg1` holds there. -/
theorem mem0_3_main_arg1 (V0 : Valuation τ sig (Elt F)) : mem0_3 V0 (no_index (Proc.devRef .tc main_arg1)) = V0 (Proc.devRef .tc main_arg1) :=
  (mem0_3_keep V0 main_arg1 (by decide)).trans (mem0_2_main_arg1 V0)
/-- What `main_v27` holds there. -/
theorem mem0_3_main_v27 (V0 : Valuation τ sig (Elt F)) : mem0_3 V0 (no_index (Proc.devRef .tc main_v27)) = posIdx V0 :=
  (mem0_3_keep V0 main_v27 (by decide)).trans (mem0_2_main_v27 V0)
set_option maxRecDepth 8192 in
set_option maxHeartbeats 2000000 in
/-- What `main_v41` holds there. -/
theorem mem0_3_main_v41 (V0 : Valuation τ sig (Elt F)) : mem0_3 V0 (no_index (Proc.devRef .tc main_v41)) = semiMask V0 := by
  unfold mem0_3
  simp only [lines0_2, TRef.binary, TRef.nullary, TRef.quaternary, TRef.ternary, TRef.unary, TRef.toBuf, TRef.ofBuf, cast_eq]
  after_results_simp
  simp only [mem0_2_main_call3_v5, mem0_2_main_call3_v12, mem0_2_main_v13, mem0_2_main_v18] <;> rfl
set_option maxRecDepth 8192 in
set_option maxHeartbeats 2000000 in
/-- What `main_v43` holds there. -/
theorem mem0_3_main_v43 (V0 : Valuation τ sig (Elt F)) : mem0_3 V0 (no_index (Proc.devRef .tc main_v43)) = (fun j => (Host.argReduce reducer_argmin_f32_i32 (semiCand V0) (iotaInDim S4096x4096 32 1) (constant S_ .f32 0x7F800000#32) (constantI S_ 32 0#32) reducesTo_S4096x4096_S4096_d1 h_S_ j).2) := by
  unfold mem0_3
  simp only [lines0_2, TRef.binary, TRef.nullary, TRef.quaternary, TRef.ternary, TRef.unary, TRef.toBuf, TRef.ofBuf, cast_eq]
  after_results_simp
  simp only [mem0_2_main_v13, mem0_2_main_call3_v5, mem0_2_main_call3_v12, mem0_2_main_v18] <;> rfl
set_option maxRecDepth 8192 in
set_option maxHeartbeats 2000000 in
/-- What `main_v44` holds there. -/
theorem mem0_3_main_v44 (V0 : Valuation τ sig (Elt F)) : mem0_3 V0 (no_index (Proc.devRef .tc main_v44)) = hardCand V0 := by
  unfold mem0_3
  simp only [lines0_2, TRef.binary, TRef.nullary, TRef.quaternary, TRef.ternary, TRef.unary, TRef.toBuf, TRef.ofBuf, cast_eq]
  after_results_simp
  simp only [mem0_2_main_v13, mem0_2_main_v18] <;> rfl

/-- The device's buffer contents after @main's first 120 operations. -/
def mem0_4 (V0 : Valuation τ sig (Elt F)) : Valuation τ sig (Elt F) := after lines0_3 (mem0_3 V0)
/-- The buffers that window `lines0_3`'s operations write. -/
abbrev lines0_3_W : List (Ref sig .tc) := [main_call7_v0, main_call7_cst, main_call7_c, main_call7_v1_0, main_v45, main_c_6, main_v46, main_v47, main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15]
set_option maxRecDepth 8192 in
/-- These operations write only the buffers listed. -/
theorem lines0_3_writes : (lines0_3 : List (HloOp τ sig (Elt F))).Forall fun op => op.writes ⊆ (lines0_3_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `lines0_3` does not write keeps its contents through it. -/
theorem mem0_4_keep (V0 : Valuation τ sig (Elt F)) (r : Ref sig .tc) (h : r ∉ lines0_3_W) :
    mem0_4 V0 (Proc.devRef .tc r) = mem0_3 V0 (Proc.devRef .tc r) :=
  after_of_writes_sub lines0_3 _ lines0_3_writes h
/-- What `main_arg0` holds there. -/
theorem mem0_4_main_arg0 (V0 : Valuation τ sig (Elt F)) : mem0_4 V0 (no_index (Proc.devRef .tc main_arg0)) = V0 (Proc.devRef .tc main_arg0) :=
  (mem0_4_keep V0 main_arg0 (by decide)).trans (mem0_3_main_arg0 V0)
/-- What `main_arg1` holds there. -/
theorem mem0_4_main_arg1 (V0 : Valuation τ sig (Elt F)) : mem0_4 V0 (no_index (Proc.devRef .tc main_arg1)) = V0 (Proc.devRef .tc main_arg1) :=
  (mem0_4_keep V0 main_arg1 (by decide)).trans (mem0_3_main_arg1 V0)
set_option maxRecDepth 8192 in
set_option maxHeartbeats 2000000 in
/-- What `main_v47` holds there. -/
theorem mem0_4_main_v47 (V0 : Valuation τ sig (Elt F)) : mem0_4 V0 (no_index (Proc.devRef .tc main_v47)) = negIdx V0 := by
  unfold mem0_4
  simp only [lines0_3, TRef.binary, TRef.nullary, TRef.quaternary, TRef.ternary, TRef.unary, TRef.toBuf, TRef.ofBuf, cast_eq]
  after_results_simp
  simp only [mem0_3_main_v44, mem0_3_main_v43, mem0_3_main_v41] <;> rfl
set_option maxRecDepth 8192 in
set_option maxHeartbeats 2000000 in
/-- What `main_call9_v13` holds there. -/
theorem mem0_4_main_call9_v13 (V0 : Valuation τ sig (Elt F)) : mem0_4 V0 (no_index (Proc.devRef .tc main_call9_v13)) = Host.gather gather_S4096x16_S4096x1_S4096x16_1_0_n_n_0_1_116 (V0 (Proc.devRef .tc main_arg0)) (posAt V0) := by
  unfold mem0_4
  simp only [lines0_3, TRef.binary, TRef.nullary, TRef.quaternary, TRef.ternary, TRef.unary, TRef.toBuf, TRef.ofBuf, cast_eq]
  after_results_simp
  simp only [mem0_3_main_v27, mem0_3_main_arg0] <;> rfl
set_option maxRecDepth 8192 in
set_option maxHeartbeats 2000000 in
/-- What `main_call9_v14` holds there. -/
theorem mem0_4_main_call9_v14 (V0 : Valuation τ sig (Elt F)) : mem0_4 V0 (no_index (Proc.devRef .tc main_call9_v14)) = broadcastInDim S4096x16 ![0] bcast_S4096_S4096x16_0 (Host.reduce IntOp.andi (andi (cmpi .sge (posAt V0) (broadcastInDim S4096x1 ![] bcast_S_S4096x1 (constantI S_ 32 0#32))) (cmpi .sle (posAt V0) (broadcastInDim S4096x1 ![0, 1] bcast_S1x1_S4096x1_0_1 (broadcastInDim S1x1 ![1] bcast_S1_S1x1_1 (constantI S1 32 4095#32))))) (constantI S_ 1 1#1) reducesTo_S4096x1_S4096_d1 h_S_) := by
  unfold mem0_4
  simp only [lines0_3, TRef.binary, TRef.nullary, TRef.quaternary, TRef.ternary, TRef.unary, TRef.toBuf, TRef.ofBuf, cast_eq]
  after_results_simp
  simp only [mem0_3_main_v27] <;> rfl
set_option maxRecDepth 8192 in
set_option maxHeartbeats 2000000 in
/-- What `main_call9_v15` holds there. -/
theorem mem0_4_main_call9_v15 (V0 : Valuation τ sig (Elt F)) : mem0_4 V0 (no_index (Proc.devRef .tc main_call9_v15)) = broadcastInDim S4096x16 ![] bcast_S_S4096x16 (constant S_ .f32 0x7FC00000#32) := by
  unfold mem0_4
  simp only [lines0_3, TRef.binary, TRef.nullary, TRef.quaternary, TRef.ternary, TRef.unary, TRef.toBuf, TRef.ofBuf, cast_eq]
  after_results_simp
  all_goals rfl

/-- The device's buffer contents after @main's first 1 window. -/
def mem1 (V0 : Valuation τ sig (Elt F)) : Valuation τ sig (Elt F) := after lines0_4 (mem0_4 V0)
/-- The buffers that window `lines0_4`'s operations write. -/
abbrev lines0_4_W : List (Ref sig .tc) := [main_v48, main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v49, main_v50]
set_option maxRecDepth 8192 in
/-- These operations write only the buffers listed. -/
theorem lines0_4_writes : (lines0_4 : List (HloOp τ sig (Elt F))).Forall fun op => op.writes ⊆ (lines0_4_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `lines0_4` does not write keeps its contents through it. -/
theorem mem1_keep (V0 : Valuation τ sig (Elt F)) (r : Ref sig .tc) (h : r ∉ lines0_4_W) :
    mem1 V0 (Proc.devRef .tc r) = mem0_4 V0 (Proc.devRef .tc r) :=
  after_of_writes_sub lines0_4 _ lines0_4_writes h
/-- What `main_arg0` holds there. -/
theorem mem1_main_arg0 (V0 : Valuation τ sig (Elt F)) : mem1 V0 (no_index (Proc.devRef .tc main_arg0)) = V0 (Proc.devRef .tc main_arg0) :=
  (mem1_keep V0 main_arg0 (by decide)).trans (mem0_4_main_arg0 V0)
/-- What `main_arg1` holds there. -/
theorem mem1_main_arg1 (V0 : Valuation τ sig (Elt F)) : mem1 V0 (no_index (Proc.devRef .tc main_arg1)) = V0 (Proc.devRef .tc main_arg1) :=
  (mem1_keep V0 main_arg1 (by decide)).trans (mem0_4_main_arg1 V0)
set_option maxRecDepth 8192 in
set_option maxHeartbeats 2000000 in
/-- What `main_v49` holds there. -/
theorem mem1_main_v49 (V0 : Valuation τ sig (Elt F)) : mem1 V0 (no_index (Proc.devRef .tc main_v49)) = select (broadcastInDim S4096x16 ![0] bcast_S4096_S4096x16_0 (Host.reduce IntOp.andi (andi (cmpi .sge (negAt V0) (broadcastInDim S4096x1 ![] bcast_S_S4096x1 (constantI S_ 32 0#32))) (cmpi .sle (negAt V0) (broadcastInDim S4096x1 ![0, 1] bcast_S1x1_S4096x1_0_1 (broadcastInDim S1x1 ![1] bcast_S1_S1x1_1 (constantI S1 32 4095#32))))) (constantI S_ 1 1#1) reducesTo_S4096x1_S4096_d1 h_S_)) (Host.gather gather_S4096x16_S4096x1_S4096x16_1_0_n_n_0_1_116 (V0 (Proc.devRef .tc main_arg0)) (negAt V0)) (broadcastInDim S4096x16 ![] bcast_S_S4096x16 (constant S_ .f32 0x7FC00000#32)) := by
  unfold mem1
  simp only [lines0_4, TRef.binary, TRef.nullary, TRef.ternary, TRef.unary, TRef.toBuf, TRef.ofBuf, cast_eq]
  after_results_simp
  simp only [mem0_4_main_v47, mem0_4_main_arg0] <;> rfl
set_option maxRecDepth 8192 in
set_option maxHeartbeats 2000000 in
/-- What `main_v50` holds there. -/
theorem mem1_main_v50 (V0 : Valuation τ sig (Elt F)) : mem1 V0 (no_index (Proc.devRef .tc main_v50)) = posDiff V0 := by
  unfold mem1
  simp only [lines0_4, TRef.binary, TRef.nullary, TRef.ternary, TRef.unary, TRef.toBuf, TRef.ofBuf, cast_eq]
  after_results_simp
  simp only [mem0_4_main_call9_v15, mem0_4_main_call9_v13, mem0_4_main_call9_v14, mem0_4_main_arg0] <;> rfl

/-- The device's buffer contents after @main's first 2 windows. -/
def mem2 (V0 : Valuation τ sig (Elt F)) : Valuation τ sig (Elt F) := after lines1 (mem1 V0)
/-- The buffers that window `main_part1`'s operations write. -/
abbrev lines1_W : List (Ref sig .tc) := [main_v51, main_cst_7, main_v52, main_cst_8, main_v53, main_v54, main_v55, main_v56, main_v57, main_cst_9, main_v58, main_cst_10, main_v59, main_v60, main_v61, main_v62, main_cst_11, main_v63, main_v64, main_cst_12, main_v65, main_v66, main_cst_13, main_v67, main_cst_14, main_v68]
set_option maxRecDepth 8192 in
/-- These operations write only the buffers listed. -/
theorem lines1_writes : (lines1 : List (HloOp τ sig (Elt F))).Forall fun op => op.writes ⊆ (lines1_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part1` does not write keeps its contents through it. -/
theorem mem2_keep (V0 : Valuation τ sig (Elt F)) (r : Ref sig .tc) (h : r ∉ lines1_W) :
    mem2 V0 (Proc.devRef .tc r) = mem1 V0 (Proc.devRef .tc r) :=
  after_of_writes_sub lines1 _ lines1_writes h
/-- What `main_arg0` holds there. -/
theorem mem2_main_arg0 (V0 : Valuation τ sig (Elt F)) : mem2 V0 (no_index (Proc.devRef .tc main_arg0)) = V0 (Proc.devRef .tc main_arg0) :=
  (mem2_keep V0 main_arg0 (by decide)).trans (mem1_main_arg0 V0)
/-- What `main_arg1` holds there. -/
theorem mem2_main_arg1 (V0 : Valuation τ sig (Elt F)) : mem2 V0 (no_index (Proc.devRef .tc main_arg1)) = V0 (Proc.devRef .tc main_arg1) :=
  (mem2_keep V0 main_arg1 (by decide)).trans (mem1_main_arg1 V0)
set_option maxRecDepth 8192 in
set_option maxHeartbeats 2000000 in
/-- What `main_v68` holds there. -/
theorem mem2_main_v68 (V0 : Valuation τ sig (Elt F)) : mem2 V0 (no_index (Proc.devRef .tc main_v68)) = Host.divf (Host.reduceAdd (maximumf (addf (subf (Host.sqrt (addf (Host.reduceAdd (mulf (posDiff V0) (posDiff V0)) (constant S_ .f32 0x00000000#32) reducesTo_S4096x16_S4096_d1 h_S_) (broadcastInDim S4096 ![] bcast_S_S4096 (constant S_ .f32 0x2B8CBCCC#32)))) (Host.sqrt (addf (Host.reduceAdd (mulf (negDiff V0) (negDiff V0)) (constant S_ .f32 0x00000000#32) reducesTo_S4096x16_S4096_d1 h_S_) (broadcastInDim S4096 ![] bcast_S_S4096 (constant S_ .f32 0x2B8CBCCC#32))))) (broadcastInDim S4096 ![] bcast_S_S4096 (constant S_ .f32 0x3F800000#32))) (broadcastInDim S4096 ![] bcast_S_S4096 (constant S_ .f32 0x00000000#32))) (constant S_ .f32 0x00000000#32) reducesTo_S4096_S_d0 h_S_) (constant S_ .f32 0x45800000#32) := by
  unfold mem2
  simp only [lines1]
  after_results_simp
  simp only [mem1_main_v49, mem1_main_arg0, mem1_main_v50] <;> rfl

/-- The contents after all operations. -/
theorem after_ops (V0 : Valuation τ sig (Elt F)) : after ops V0 = mem2 V0 := by
  simp only [ops, lines0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68) = Host.divf (Host.reduceAdd (maximumf (addf (subf (Host.sqrt (addf (Host.reduceAdd (mulf (posDiff (launchContents m c)) (posDiff (launchContents m c))) (constant S_ .f32 0x00000000#32) reducesTo_S4096x16_S4096_d1 h_S_) (broadcastInDim S4096 ![] bcast_S_S4096 (constant S_ .f32 0x2B8CBCCC#32)))) (Host.sqrt (addf (Host.reduceAdd (mulf (negDiff (launchContents m c)) (negDiff (launchContents m c))) (constant S_ .f32 0x00000000#32) reducesTo_S4096x16_S4096_d1 h_S_) (broadcastInDim S4096 ![] bcast_S_S4096 (constant S_ .f32 0x2B8CBCCC#32))))) (broadcastInDim S4096 ![] bcast_S_S4096 (constant S_ .f32 0x3F800000#32))) (broadcastInDim S4096 ![] bcast_S_S4096 (constant S_ .f32 0x00000000#32))) (constant S_ .f32 0x00000000#32) reducesTo_S4096_S_d0 h_S_) (constant S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v68).trans ((congrFun (after_ops (launchContents m c)) (Proc.devRef .tc main_v68)).trans (mem2_main_v68 (launchContents m c))),
      (h c main_arg0).trans ((congrFun (after_ops (launchContents m c)) (Proc.devRef .tc main_arg0)).trans (mem2_main_arg0 (launchContents m c))),
      (h c main_arg1).trans ((congrFun (after_ops (launchContents m c)) (Proc.devRef .tc main_arg1)).trans (mem2_main_arg1 (launchContents m c)))⟩)
    (run_seq scopedRefs_eq scopedSems_eq defs main (fun _ => ops) main_eq (fun _ => ops_sub) m ρ fun _ => ops_fresh)

end Cert.Triplet.Ref

end
-- ==== Proof.Offsets.lean ====
module

public import proofs.«01_k».proof.Proof.Gen.KernelIdeal.Frame
public import proofs.«01_k».proof.Proof.Gen.KernelIdeal.Skeleton

@[expose] public section

set_option maxRecDepth 16384

noncomputable section

namespace Cert.Triplet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The rows a point loads at step `r` of its sweep start at row 256·((pid + r) mod 16). -/
theorem tile_off : ∀ i : grid0.Coords, ∀ r : Fin 16,
    k0_off2 i (BitVec.ofNat 32 r.val) = ![256 * (((i 0).val + r.val) % 16), 0] := by decide +kernel

/-- The closed form of this tile's offset. -/
instance closedOff_tile_0 (i : grid0.Coords) : ClosedOff (k0_off2 i (BitVec.ofNat 32 0)) :=
  ⟨![256 * (((i 0).val + 0) % 16), 0], tile_off i 0⟩
/-- The closed form of this tile's offset. -/
instance closedOff_tile_1 (i : grid0.Coords) : ClosedOff (k0_off2 i (BitVec.ofNat 32 1)) :=
  ⟨![256 * (((i 0).val + 1) % 16), 0], tile_off i 1⟩
/-- The closed form of this tile's offset. -/
instance closedOff_tile_2 (i : grid0.Coords) : ClosedOff (k0_off2 i (BitVec.ofNat 32 2)) :=
  ⟨![256 * (((i 0).val + 2) % 16), 0], tile_off i 2⟩
/-- The closed form of this tile's offset. -/
instance closedOff_tile_3 (i : grid0.Coords) : ClosedOff (k0_off2 i (BitVec.ofNat 32 3)) :=
  ⟨![256 * (((i 0).val + 3) % 16), 0], tile_off i 3⟩
/-- The closed form of this tile's offset. -/
instance closedOff_tile_4 (i : grid0.Coords) : ClosedOff (k0_off2 i (BitVec.ofNat 32 4)) :=
  ⟨![256 * (((i 0).val + 4) % 16), 0], tile_off i 4⟩
/-- The closed form of this tile's offset. -/
instance closedOff_tile_5 (i : grid0.Coords) : ClosedOff (k0_off2 i (BitVec.ofNat 32 5)) :=
  ⟨![256 * (((i 0).val + 5) % 16), 0], tile_off i 5⟩
/-- The closed form of this tile's offset. -/
instance closedOff_tile_6 (i : grid0.Coords) : ClosedOff (k0_off2 i (BitVec.ofNat 32 6)) :=
  ⟨![256 * (((i 0).val + 6) % 16), 0], tile_off i 6⟩
/-- The closed form of this tile's offset. -/
instance closedOff_tile_7 (i : grid0.Coords) : ClosedOff (k0_off2 i (BitVec.ofNat 32 7)) :=
  ⟨![256 * (((i 0).val + 7) % 16), 0], tile_off i 7⟩
/-- The closed form of this tile's offset. -/
instance closedOff_tile_8 (i : grid0.Coords) : ClosedOff (k0_off2 i (BitVec.ofNat 32 8)) :=
  ⟨![256 * (((i 0).val + 8) % 16), 0], tile_off i 8⟩
/-- The closed form of this tile's offset. -/
instance closedOff_tile_9 (i : grid0.Coords) : ClosedOff (k0_off2 i (BitVec.ofNat 32 9)) :=
  ⟨![256 * (((i 0).val + 9) % 16), 0], tile_off i 9⟩
/-- The closed form of this tile's offset. -/
instance closedOff_tile_10 (i : grid0.Coords) : ClosedOff (k0_off2 i (BitVec.ofNat 32 10)) :=
  ⟨![256 * (((i 0).val + 10) % 16), 0], tile_off i 10⟩
/-- The closed form of this tile's offset. -/
instance closedOff_tile_11 (i : grid0.Coords) : ClosedOff (k0_off2 i (BitVec.ofNat 32 11)) :=
  ⟨![256 * (((i 0).val + 11) % 16), 0], tile_off i 11⟩
/-- The closed form of this tile's offset. -/
instance closedOff_tile_12 (i : grid0.Coords) : ClosedOff (k0_off2 i (BitVec.ofNat 32 12)) :=
  ⟨![256 * (((i 0).val + 12) % 16), 0], tile_off i 12⟩
/-- The closed form of this tile's offset. -/
instance closedOff_tile_13 (i : grid0.Coords) : ClosedOff (k0_off2 i (BitVec.ofNat 32 13)) :=
  ⟨![256 * (((i 0).val + 13) % 16), 0], tile_off i 13⟩
/-- The closed form of this tile's offset. -/
instance closedOff_tile_14 (i : grid0.Coords) : ClosedOff (k0_off2 i (BitVec.ofNat 32 14)) :=
  ⟨![256 * (((i 0).val + 14) % 16), 0], tile_off i 14⟩
/-- The closed form of this tile's offset. -/
instance closedOff_tile_15 (i : grid0.Coords) : ClosedOff (k0_off2 i (BitVec.ofNat 32 15)) :=
  ⟨![256 * (((i 0).val + 15) % 16), 0], tile_off i 15⟩

end Cert.Triplet

end
-- ==== Proof.Points.lean ====
module

public import proofs.«01_k».proof.Proof.Offsets

@[expose] public section

set_option maxRecDepth 16384

noncomputable section

namespace Cert.Triplet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions of the body, and the buffers a point works on -/

/-- The condition under which the body builds its scratch. -/
abbrev buildCond (i : grid0.Coords) : Prop := (Scalar.cmpi .ne (Scalar.extui (Scalar.cmpi .eq (BitVec.ofNat 32 (i 0).val) 0#32)) 0#32) = 1#1
/-- The condition under which the body scales the total. -/
abbrev scaleCond (i : grid0.Coords) : Prop := (Scalar.cmpi .ne (Scalar.extui (Scalar.cmpi .eq (BitVec.ofNat 32 (i 0).val) 15#32)) 0#32) = 1#1

/-- The grid has sixteen points. -/
theorem point_lt (t : Fin cfg0.N) : t.val < 16 := lt_of_lt_of_eq t.isLt N_0
/-- A point's one coordinate is its number. -/
theorem coord_val (t : Fin grid0.N) : (grid0.coords t 0).val = t.val := by
  have h : (grid0.coords t 0).val = t.val / 1 % 16 := Pipeline.Grid.coords_val t 0 (by decide) rfl
  have := point_lt t
  omega

/-- The scratch is built at the first point only. -/
theorem build_iff (t : Fin cfg0.N) : buildCond (grid0.coords t) ↔ t.val = 0 := by
  have ht := point_lt t
  have e0 := coord_val t
  simp only [buildCond, e0]
  word_cmp
/-- The total is scaled at the last point only. -/
theorem scale_iff (t : Fin cfg0.N) : scaleCond (grid0.coords t) ↔ t.val = 15 := by
  have ht := point_lt t
  have e0 := coord_val t
  simp only [scaleCond, e0]
  word_cmp

/-- The staging buffers at a point, and that each is a whole buffer. -/
abbrev stE (t : Fin cfg0.N) : Memref sig .tc .vmem S4096x16 .f32 := win0_0.stage (cfg0.slots t 0)
/-- It is a whole buffer. -/
abbrev stE_whole (t : Fin cfg0.N) : (stE t).IsWhole := hstage0_0 ((cfg0.slots t 0).cast nbuf0_0)
/-- The staged labels of a point. -/
abbrev stT (t : Fin cfg0.N) : Memref sig .tc .vmem S4096x1 .i32 := win0_1.stage (cfg0.slots t 1)
/-- It is a whole buffer. -/
abbrev stT_whole (t : Fin cfg0.N) : (stT t).IsWhole := hstage0_1 ((cfg0.slots t 1).cast nbuf0_1)
/-- The staged output of a point. -/
abbrev stO (t : Fin cfg0.N) : Memref sig .tc .vmem S1x1 .f32 := win0_2.stage (cfg0.slots t 2)
/-- It is a whole buffer. -/
abbrev stO_whole (t : Fin cfg0.N) : (stO t).IsWhole := hstage0_2 ((cfg0.slots t 2).cast nbuf0_2)
/-- The three scratch buffers. -/
abbrev scL : Memref sig .tc .vmem S4096x118 .f32 := Memref.whole cc0_scratch0
/-- The scratch of the second sweep's rows. -/
abbrev scN : Memref sig .tc .vmem S4096x118 .f32 := Memref.whole cc0_scratch1
/-- The scratch of the first sweep's rows. -/
abbrev scP : Memref sig .tc .vmem S4096x118 .f32 := Memref.whole cc0_scratch2

/-- What the launch hands the region: the three scratch buffers at some contents, and the generator's register. -/
theorem handed_eq (c : Dev nD) :
    (Pipeline.ΦA spec0 c : sProp 𝕄)
      = iprop(iprop((∃ d, owns (c : Thread nD τ) scL fullShare d) ∗ (∃ d, owns (c : Thread nD τ) scN fullShare d) ∗ (∃ d, owns (c : Thread nD τ) scP fullShare d)) ∗ (∃ r, prngReg c r)) := by
  unfold Pipeline.ΦA; rw [scopedRest0_eq]; simp only [scL, scN, scP, owns_whole]; try rfl

end Cert.Triplet

end
-- ==== Proof.RunFirst.lean ====
module

public import proofs.«01_k».proof.Proof.Points

@[expose] public section

set_option maxRecDepth 16384

noncomputable section

namespace Cert.Triplet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S4096x16 .f32) (harg1 : arg1.IsWhole) (arg2 : Memref sig .tc .vmem S4096x1 .i32) (harg2 : arg2.IsWhole)
  (arg3 : Memref sig .tc .vmem S1x1 .f32) (harg3 : arg3.IsWhole) (arg4 : Memref sig .tc .vmem S4096x118 .f32) (harg4 : arg4.IsWhole)
  (arg5 : Memref sig .tc .vmem S4096x118 .f32) (harg5 : arg5.IsWhole) (arg6 : Memref sig .tc .vmem S4096x118 .f32) (harg6 : arg6.IsWhole)

set_option maxHeartbeats 1604000 in
/-- The body at the first point: from whole buffers, the inputs at their contents and the others at anything, it builds the three
    scratch buffers and leaves the output at the first block's sum; the pieces each ends with are what the run finds. -/
def runFirst (hb : buildCond i) (hs : ¬scaleCond i)
    (x0 : Vec F S4096x16 .f32) (x1 : Vec F S4096x1 .i32) :
    Σ' (LO : List (View.Piece (Elt F) S1x1 .f32)) (LL LN : List (View.Piece (Elt F) S4096x118 .f32)), { LP : List (View.Piece (Elt F) S4096x118 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LL) ∗ (∃ f, arg5.view.loc (c : Thread nD τ) ↦[arg5.view.set]{fullShare} arg5.view.writes (Elt F) f LN) ∗ (∃ f, arg6.view.loc (c : Thread nD τ) ↦[arg6.view.set]{fullShare} arg6.view.writes (Elt F) f LP)) -∗ K ⟨⟩))
          ⊢ wp frame (wpE (defs₀ (F := F)) Variants.none c none) E (cc0__triplet_kernel i arg1 harg1 arg2 harg2 arg3 harg3 arg4 harg4 arg5 harg5 arg6 harg6) K } := by
  refine ⟨?_, ?_, ?_, ?_, fun E K => ?run⟩
  case run =>
    simp only [cc0__triplet_kernel_eq_skeleton]; unfold cc0__triplet_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg1.eq_unread hf0; obtain rfl := harg2.eq_unread hf1
    sl_exec (disch := first | sl_exact hb | sl_exact hs)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    isplitl [HS1]; · iexists _; iexact HS1
    iexists _; iexact HS2

end Cert.Triplet

end
-- ==== Proof.RunMiddle.lean ====
module

public import proofs.«01_k».proof.Proof.RunFirst

@[expose] public section

set_option maxRecDepth 16384

noncomputable section

namespace Cert.Triplet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S4096x16 .f32) (harg1 : arg1.IsWhole) (arg2 : Memref sig .tc .vmem S4096x1 .i32) (harg2 : arg2.IsWhole)
  (arg3 : Memref sig .tc .vmem S1x1 .f32) (harg3 : arg3.IsWhole) (arg4 : Memref sig .tc .vmem S4096x118 .f32) (harg4 : arg4.IsWhole)
  (arg5 : Memref sig .tc .vmem S4096x118 .f32) (harg5 : arg5.IsWhole) (arg6 : Memref sig .tc .vmem S4096x118 .f32) (harg6 : arg6.IsWhole)

set_option maxHeartbeats 1604000 in
/-- The body at a point between: the scratch is kept, and the output ends with the point's block sum added. -/
def runMiddle (hb : ¬buildCond i) (hs : ¬scaleCond i)
    (x0 : Vec F S4096x16 .f32) (x1 : Vec F S4096x1 .i32) (xo : Vec F S1x1 .f32) (xl xn xp : Vec F S4096x118 .f32) :
    { LO : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xl ∗ owns (c : Thread nD τ) arg5 fullShare xn ∗ owns (c : Thread nD τ) arg6 fullShare xp
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ owns (c : Thread nD τ) arg4 fullShare xl ∗ owns (c : Thread nD τ) arg5 fullShare xn ∗ owns (c : Thread nD τ) arg6 fullShare xp) -∗ K ⟨⟩))
          ⊢ wp frame (wpE (defs₀ (F := F)) Variants.none c none) E (cc0__triplet_kernel i arg1 harg1 arg2 harg2 arg3 harg3 arg4 harg4 arg5 harg5 arg6 harg6) K } := by
  refine ⟨?_, fun E K => ?run⟩
  case run =>
    simp only [cc0__triplet_kernel_eq_skeleton]; unfold cc0__triplet_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hfs0; obtain rfl := harg5.eq_unread hfs1; obtain rfl := harg6.eq_unread hfs2
    sl_exec (disch := first | sl_exact hb | sl_exact hs)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]
    · iexists _; isplitr; · ipureintro; exact harg4.read_unread _
      iexact HS0
    isplitl [HS1]
    · iexists _; isplitr; · ipureintro; exact harg5.read_unread _
      iexact HS1
    iexists _; isplitr; · ipureintro; exact harg6.read_unread _
    iexact HS2

end Cert.Triplet

end
-- ==== Proof.RunLast.lean ====
module

public import proofs.«01_k».proof.Proof.RunMiddle

@[expose] public section

set_option maxRecDepth 16384

noncomputable section

namespace Cert.Triplet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S4096x16 .f32) (harg1 : arg1.IsWhole) (arg2 : Memref sig .tc .vmem S4096x1 .i32) (harg2 : arg2.IsWhole)
  (arg3 : Memref sig .tc .vmem S1x1 .f32) (harg3 : arg3.IsWhole) (arg4 : Memref sig .tc .vmem S4096x118 .f32) (harg4 : arg4.IsWhole)
  (arg5 : Memref sig .tc .vmem S4096x118 .f32) (harg5 : arg5.IsWhole) (arg6 : Memref sig .tc .vmem S4096x118 .f32) (harg6 : arg6.IsWhole)

set_option maxHeartbeats 1604000 in
/-- The body at the last point: the scratch is kept, and the output ends with the block sum added and the total scaled. -/
def runLast (hb : ¬buildCond i) (hs : scaleCond i)
    (x0 : Vec F S4096x16 .f32) (x1 : Vec F S4096x1 .i32) (xo : Vec F S1x1 .f32) (xl xn xp : Vec F S4096x118 .f32) :
    { LO : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xl ∗ owns (c : Thread nD τ) arg5 fullShare xn ∗ owns (c : Thread nD τ) arg6 fullShare xp
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ owns (c : Thread nD τ) arg4 fullShare xl ∗ owns (c : Thread nD τ) arg5 fullShare xn ∗ owns (c : Thread nD τ) arg6 fullShare xp) -∗ K ⟨⟩))
          ⊢ wp frame (wpE (defs₀ (F := F)) Variants.none c none) E (cc0__triplet_kernel i arg1 harg1 arg2 harg2 arg3 harg3 arg4 harg4 arg5 harg5 arg6 harg6) K } := by
  refine ⟨?_, fun E K => ?run⟩
  case run =>
    simp only [cc0__triplet_kernel_eq_skeleton]; unfold cc0__triplet_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hfs0; obtain rfl := harg5.eq_unread hfs1; obtain rfl := harg6.eq_unread hfs2
    sl_exec (disch := first | sl_exact hb | sl_exact hs)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]
    · iexists _; isplitr; · ipureintro; exact harg4.read_unread _
      iexact HS0
    isplitl [HS1]
    · iexists _; isplitr; · ipureintro; exact harg5.read_unread _
      iexact HS1
    iexists _; isplitr; · ipureintro; exact harg6.read_unread _
    iexact HS2

end Cert.Triplet

end
-- ==== Proof.Contents.lean ====
module

public import proofs.«01_k».proof.Proof.RunLast

@[expose] public section

set_option maxRecDepth 16384

noncomputable section

namespace Cert.Triplet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The first point. -/
abbrev t0 : Fin cfg0.N := ⟨0, by decide⟩

/-- The run of the first point, at the buffers and the blocks the pipeline gives it. -/
abbrev atFirst (c : Dev nD) :=
  runFirst c (grid0.coords t0) (stE t0) (stE_whole t0) (stT t0) (stT_whole t0) (stO t0) (stO_whole t0) scL (Memref.isWhole_whole _) scN (Memref.isWhole_whole _) scP (Memref.isWhole_whole _)
    ((build_iff t0).mpr rfl) (fun h => absurd ((scale_iff t0).mp h) (by decide)) (iblk m c 0 t0) (iblk m c 1 t0)

/-- What the first point leaves in the three scratch buffers, which no later point changes. -/
def leftRows (c : Dev nD) : Vec F S4096x118 .f32 := View.canon (atFirst m c).2.1
/-- The rows built for the second sweep. -/
def negRows (c : Dev nD) : Vec F S4096x118 .f32 := View.canon (atFirst m c).2.2.1
/-- The rows built for the first sweep. -/
def posRows (c : Dev nD) : Vec F S4096x118 .f32 := View.canon (atFirst m c).2.2.2.1

/-- The run of a point between, over the output's running contents. -/
abbrev atMiddle (c : Dev nD) (t : Fin cfg0.N) (h0 : ¬t.val = 0) (h15 : ¬t.val = 15) (xo : Vec F S1x1 .f32) :=
  runMiddle c (grid0.coords t) (stE t) (stE_whole t) (stT t) (stT_whole t) (stO t) (stO_whole t) scL (Memref.isWhole_whole _) scN (Memref.isWhole_whole _) scP (Memref.isWhole_whole _)
    (fun h => h0 ((build_iff t).mp h)) (fun h => h15 ((scale_iff t).mp h)) (iblk m c 0 t) (iblk m c 1 t) xo (leftRows m c) (negRows m c) (posRows m c)

/-- The run of the last point, over the output's running contents. -/
abbrev atLast (c : Dev nD) (t : Fin cfg0.N) (h15 : t.val = 15) (xo : Vec F S1x1 .f32) :=
  runLast c (grid0.coords t) (stE t) (stE_whole t) (stT t) (stT_whole t) (stO t) (stO_whole t) scL (Memref.isWhole_whole _) scN (Memref.isWhole_whole _) scP (Memref.isWhole_whole _)
    (fun h => absurd ((build_iff t).mp h) (by omega)) ((scale_iff t).mpr h15) (iblk m c 0 t) (iblk m c 1 t) xo (leftRows m c) (negRows m c) (posRows m c)

/-- The pieces of each run cover the buffer they are for. -/
theorem coverFirst (c : Dev nD) (y : S1x1.Idx) : ∃ pc ∈ (atFirst m c).1, y ∈ pc.1.set :=
  View.cover_of_tiledL (atFirst m c).1 S1x1.size (by sl_kernel_rfl) y
/-- The first point writes every entry of the left rows. -/
theorem coverLeft (c : Dev nD) (y : S4096x118.Idx) : ∃ pc ∈ (atFirst m c).2.1, y ∈ pc.1.set :=
  View.cover_of_tiledL (atFirst m c).2.1 S4096x118.size (by sl_kernel_rfl) y
/-- The first point writes every entry of the second sweep's rows. -/
theorem coverNeg (c : Dev nD) (y : S4096x118.Idx) : ∃ pc ∈ (atFirst m c).2.2.1, y ∈ pc.1.set :=
  View.cover_of_tiledL (atFirst m c).2.2.1 S4096x118.size (by sl_kernel_rfl) y
/-- The first point writes every entry of the first sweep's rows. -/
theorem coverPos (c : Dev nD) (y : S4096x118.Idx) : ∃ pc ∈ (atFirst m c).2.2.2.1, y ∈ pc.1.set :=
  View.cover_of_tiledL (atFirst m c).2.2.2.1 S4096x118.size (by sl_kernel_rfl) y
/-- A middle point writes the output. -/
theorem coverMiddle (c : Dev nD) (t : Fin cfg0.N) (h0 h15) (xo : Vec F S1x1 .f32) (y : S1x1.Idx) : ∃ pc ∈ (atMiddle m c t h0 h15 xo).1, y ∈ pc.1.set :=
  View.cover_of_tiledL (atMiddle m c t h0 h15 xo).1 S1x1.size (by sl_kernel_rfl) y
/-- The last point writes the output. -/
theorem coverLast (c : Dev nD) (t : Fin cfg0.N) (h15) (xo : Vec F S1x1 .f32) (y : S1x1.Idx) : ∃ pc ∈ (atLast m c t h15 xo).1, y ∈ pc.1.set :=
  View.cover_of_tiledL (atLast m c t h15 xo).1 S1x1.size (by sl_kernel_rfl) y

/-- What the output's staging buffer holds after the body at point `n`: the running total. -/
def totalAt (c : Dev nD) : (n : ℕ) → n < cfg0.N → Vec F S1x1 .f32
  | 0, _ => View.canon (atFirst m c).1
  | n + 1, hn =>
    if h : n + 1 = 15 then View.canon (atLast m c ⟨n + 1, hn⟩ h (totalAt c n (Nat.lt_of_succ_lt hn))).1
    else View.canon (atMiddle m c ⟨n + 1, hn⟩ (Nat.succ_ne_zero n) h (totalAt c n (Nat.lt_of_succ_lt hn))).1

/-- The running total after a point between. -/
theorem total_middle (c : Dev nD) (t : Fin cfg0.N) (h0 : ¬t.val = 0) (h15 : ¬t.val = 15) :
    totalAt m c t.val t.isLt = View.canon (atMiddle m c t h0 h15 (totalAt m c (t.val - 1) (Nat.lt_of_le_of_lt (Nat.sub_le _ _) t.isLt))).1 := by
  obtain ⟨n, hn⟩ := t
  cases n with
  | zero => exact absurd rfl h0
  | succ n => exact dif_neg h15
/-- The total after the last point. -/
theorem total_last (c : Dev nD) (t : Fin cfg0.N) (h15 : t.val = 15) :
    totalAt m c t.val t.isLt = View.canon (atLast m c t h15 (totalAt m c (t.val - 1) (Nat.lt_of_le_of_lt (Nat.sub_le _ _) t.isLt))).1 := by
  obtain ⟨n, hn⟩ := t
  cases n with
  | zero => have h : (0 : ℕ) = 15 := h15; omega
  | succ n => exact dif_pos h15

end Cert.Triplet

end
-- ==== Proof.Launch.lean ====
module

public import proofs.«01_k».proof.Proof.Contents
public import Idealize.ShloMosaic.Lib.Claim

@[expose] public section

set_option maxRecDepth 16384

noncomputable section

namespace Cert.Triplet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- Before the first point the scratch is as handed; from then on it holds what the first point built. -/
def carried (c : Dev nD) : (n : ℕ) → sProp 𝕄
  | 0 => Pipeline.ΦA spec0 c
  | _ + 1 => iprop(iprop(owns (c : Thread nD τ) scL fullShare (leftRows m c) ∗ owns (c : Thread nD τ) scN fullShare (negRows m c) ∗ owns (c : Thread nD τ) scP fullShare (posRows m c)) ∗ (∃ r, prngReg c r))

/-- What a point after the first finds in the scratch buffers. -/
theorem carried_pos (c : Dev nD) (n : ℕ) (hz : ¬n = 0) :
    carried m c n = iprop(iprop(owns (c : Thread nD τ) scL fullShare (leftRows m c) ∗ owns (c : Thread nD τ) scN fullShare (negRows m c) ∗ owns (c : Thread nD τ) scP fullShare (posRows m c)) ∗ (∃ r, prngReg c r)) := by
  cases n with
  | zero => exact absurd rfl hz
  | succ n => rfl

/-- The pipeline's proof data: each input's buffer keeps its block, the output's holds the running total. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => totalAt m c t.val t.isLt
  Φ t := carried m c t.val
  q _ := fullShare
  owed _ := 0

/-- Every window works on the array that it was handed. -/
theorem arrays_eq (c : Dev nD) (w : Fin cfg0.W) : (dats m 0 c).A w = V m c (Pipeline.arrRef spec0 w) := by
  dsimp only [dats]
/-- A point leaves the embeddings as they are. -/
theorem after_emb (c : Dev nD) (t : Fin cfg0.N) : (dats m 0 c).after 0 t = iblk m c 0 t := by dsimp only [dats]
/-- A point leaves the labels as they are. -/
theorem after_tgt (c : Dev nD) (t : Fin cfg0.N) : (dats m 0 c).after 1 t = iblk m c 1 t := by dsimp only [dats]
/-- A point leaves the running total in the output. -/
theorem after_out (c : Dev nD) (t : Fin cfg0.N) : (dats m 0 c).after 2 t = totalAt m c t.val t.isLt := by dsimp only [dats]
/-- A point finds the embeddings. -/
theorem before_emb (c : Dev nD) (t : Fin cfg0.N) (d) : (dats m 0 c).before 0 t d = iblk m c 0 t :=
  before0_0_of m (dats m 0 c) (arrays_eq m c 0) (after_emb m c) t d
/-- A point finds the labels. -/
theorem before_tgt (c : Dev nD) (t : Fin cfg0.N) (d) : (dats m 0 c).before 1 t d = iblk m c 1 t :=
  before0_1_of m (dats m 0 c) (arrays_eq m c 1) (after_tgt m c) t d
/-- After the first point the output's buffer still holds what the point before left. -/
theorem before_out (c : Dev nD) (t : Fin cfg0.N) (h0 : ¬t.val = 0) (d) :
    (dats m 0 c).before 2 t d = totalAt m c (t.val - 1) (Nat.lt_of_le_of_lt (Nat.sub_le _ _) t.isLt) := by
  have hN := point_lt t
  rw [Dat.before_out_kept _ 2 rfl t (by omega) (Bool.eq_false_iff.mpr fun h => by have := (flush0_2 _).mp h; dsimp only at this; omega)
    (fun _ => rfl) (fun _ _ => rfl)]
  dsimp only [dats]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (stE t) fullShare ((dats m 0 c).before 0 t d))
    ∗ (∃ d, owns (c : Thread nD τ) (stT t) fullShare ((dats m 0 c).before 1 t d))
    ∗ (∃ d, owns (c : Thread nD τ) (stO t) fullShare ((dats m 0 c).before 2 t d)))
/-- What the body leaves at a point. -/
def bodyPost (c : Dev nD) (t : Fin cfg0.N) : sProp 𝕄 :=
  iprop((dats m 0 c).Φ t.succ ∗ (dats m 0 c).owesAt () t.succ
    ∗ owns (c : Thread nD τ) (stE t) fullShare ((dats m 0 c).after 0 t)
    ∗ owns (c : Thread nD τ) (stT t) fullShare ((dats m 0 c).after 1 t)
    ∗ owns (c : Thread nD τ) (stO t) fullShare ((dats m 0 c).after 2 t))

set_option maxHeartbeats 4800000 in
/-- The body at any point, by the run of the case the point is in. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_emb, before_tgt]
  rw [show (dats m 0 c).owesAt () t.succ = (dats m 0 c).owesAt () t.castSucc from rfl,
    after_emb, after_tgt, after_out]
  rw [show (dats m 0 c).Φ t.succ = carried m c (t.val + 1) from rfl, carried_pos m c (t.val + 1) (Nat.succ_ne_zero _),
    show (dats m 0 c).Φ t.castSucc = carried m c t.val from rfl]
  have hN := point_lt t
  by_cases h0 : t.val = 0
  · obtain ⟨n, hn⟩ := t
    obtain rfl : n = 0 := h0
    rw [show carried m c 0 = Pipeline.ΦA spec0 c from rfl, handed_eq]
    show _ ⊢ wp _ _ _ _ (fun _ => iprop(_ ∗ _ ∗ _ ∗ _ ∗ owns (c : Thread nD τ) (stO t0) fullShare (View.canon (atFirst m c).1)))
    unfold leftRows negRows posRows
    iintro ⟨⟨⟨HS0, HS1, HS2⟩, Hg⟩, Ho, ⟨%d0, H0⟩, ⟨%d1, H1⟩, ⟨%d2, H2⟩⟩
    iapply ((atFirst m c).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_eq_canon _ _ _ (coverLeft m c)
        isplitl [HS1]
        · unfold owns; iexists _; isplitr
          swap; · iexact HS1
          ipureintro; exact View.read_writes_eq_canon _ _ _ (coverNeg m c)
        unfold owns; iexists _; isplitr
        swap; · iexact HS2
        ipureintro; exact View.read_writes_eq_canon _ _ _ (coverPos m c)
      iexact Hg
    isplitl [Ho]; · iexact Ho
    isplitl [H0]; · iexact H0
    isplitl [H1]; · iexact H1
    unfold owns; iexists _; isplitr
    swap; · iexact H2
    ipureintro; exact View.read_writes_eq_canon _ _ _ (coverFirst m c)
  rw [carried_pos m c t.val h0]
  simp only [before_out m c t h0]
  by_cases h15 : t.val = 15
  · rw [total_last m c t h15]
    iintro ⟨⟨⟨HS0, HS1, HS2⟩, Hg⟩, Ho, ⟨%d0, H0⟩, ⟨%d1, H1⟩, ⟨%d2, H2⟩⟩
    iapply ((atLast m c t h15 (totalAt m c (t.val - 1) (by omega))).2 Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, ⟨%e2, H2⟩, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    unfold owns; iexists _; isplitr
    swap; · iexact H2
    ipureintro; exact View.read_writes_eq_canon _ _ _ (coverLast m c t h15 _)
  · rw [total_middle m c t h0 h15]
    iintro ⟨⟨⟨HS0, HS1, HS2⟩, Hg⟩, Ho, ⟨%d0, H0⟩, ⟨%d1, H1⟩, ⟨%d2, H2⟩⟩
    iapply ((atMiddle m c t h0 h15 (totalAt m c (t.val - 1) (by omega))).2 Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, ⟨%e2, H2⟩, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    unfold owns; iexists _; isplitr
    swap; · iexact H2
    ipureintro; exact View.read_writes_eq_canon _ _ _ (coverMiddle m c t h0 h15 _)

/-- The body table's row at a point is the body as the pipeline calls it there. -/
theorem table_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, table_row]
  exact triple_restated (body_sound m c t) rfl .rfl fun _ => .rfl

/-- What the launch hands the region is the invariant before the first point. -/
theorem handed_in (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives it back, forgetting what the scratch holds. -/
theorem handed_out (c : Dev nD) : (dats m 0 c).Φ (Fin.last cfg0.N) ⊢ Pipeline.ΦA spec0 c := by
  rw [show (dats m 0 c).Φ (Fin.last cfg0.N) = carried m c 16 from rfl, carried_pos m c 16 (by decide), handed_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
set_option maxHeartbeats 800000 in
/-- The launch: every weakly fair execution terminates with the pipeline's arrays at what the proof data say, the other
    buffers as the lines after the region leave them, and every semaphore counter at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays_eq m) (hin := handed_in m) (hout := handed_out m)

/-- The kernel's frame, at any float values: it runs, its arguments end unchanged, its counters end at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (arrays_eq m) ((θ_run defs _ _).mono (fun _ h => h.1) (run_main m ρ)))
    ((θ_run defs _ _).mono (fun _ h => h.2) (run_main m ρ))

end Cert.Triplet

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RefRun
public import Idealize.ShloMosaic.Lib.Quiescent
public import proofs.«01_k».proof.Proof.Launch

@[expose] public section

noncomputable section

namespace Cert.Triplet

open Idealize.ShloMosaic Idealize.SL.Sem

/-- The two printings of the kernel are the same program. -/
theorem main_same : (Cert.Kernel.main (F := Bits)) = (Cert.KernelIdeal.main (F := Bits)) := rfl
/-- The two printings have the same definitions. -/
theorem defs_same : (Cert.Kernel.defs (F := Bits)) = (Cert.KernelIdeal.defs (F := Bits)) := by sl_kernel_rfl

/-- The kernel runs at words, keeps its arguments and ends quiescent. -/
theorem frame_kernel : Cert.quiescent_Kernel (hKernel := Cert.Kernel.Gen.facts) := fun m ρ _ => by
  rw [defs_same]; exact kernel_frame (F := Bits) m ρ

/-- The kernel runs at extended reals, keeps its arguments and ends quiescent. -/
theorem frame_ideal : Cert.quiescent_KernelIdeal (hKernelIdeal := Cert.KernelIdeal.Gen.facts) := fun m ρ _ =>
  kernel_frame (F := Ideal) m ρ

/-- The reference runs, keeps its arguments, and has no counter that could be left above zero. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Ref.run (F := Ideal) m ρ)

end Cert.Triplet

end
-- ==== Proof.PointSum.lean ====
module

public import proofs.«01_k».proof.Proof.Offsets

@[expose] public section

set_option maxRecDepth 16384

noncomputable section

namespace Cert.Triplet

open Idealize.ShloMosaic Idealize.ShloMosaic.TcCoe Idealize.ShloMosaic.Tactic
open Cert.KernelIdeal Cert.KernelIdeal.Gen

variable {F : FTy → Type} [FloatOps F]

/-- The row at which step `r` of a point's sweep starts, as the kernel computes it. -/
def startOf (i : grid0.Coords) (r : BitVec 32) : BitVec 32 :=
  let s := Scalar.addi (BitVec.ofNat 32 (i 0).val) r
  let k := Scalar.select (Scalar.cmpi .eq 16#32 0#32) 1#32 16#32
  let q := Scalar.remsi s k
  Scalar.muli (Scalar.select (Scalar.andi (Scalar.xori (Scalar.cmpi .slt q 0#32) (Scalar.cmpi .slt k 0#32)) (Scalar.cmpi .ne q 0#32)) (Scalar.addi q k) q) 256#32

/-- The 256 rows of tile `k`. -/
def tileRows (X : Vec F S4096x118 .f32) (k : ℕ) : Vec F S256x118 .f32 := fun y =>
  X (fun a => match a with
    | ⟨0, _⟩ => ⟨(256 * k + (y 0).val) % 4096, Nat.mod_lt _ (by decide)⟩
    | ⟨1, _⟩ => y 1)

/-- The products of 256 rows with 256 rows. -/
def product (v x : Vec F S256x118 .f32) : FVec F S256x256 .f32 :=
  matmul dot_S256x118_S256x118_S256x256_1_1_0_0_n_n none v x (constant S256x256 .f32 0x00000000#32)

/-- The first column of a tile where it is the tile of rows 0 to 255, else zeros. -/
def firstColumn (i : grid0.Coords) (r : BitVec 32) (x : FVec F S256x256 .f32) : FVec F S256x1 .f32 :=
  Scalar.select (Scalar.cmpi .eq (startOf i r) 0#32) (extractStridedSlice S256x1 ![0, 0] x slices_S256x256_o0_0_S256x1)
    (broadcast S256x1 (Scalar.ofBits .f32 0x00000000#32))

/-- The sum of the first columns of the first `n + 1` steps. -/
def columnSum (i : grid0.Coords) (X : ℕ → FVec F S256x256 .f32) : ℕ → FVec F S256x1 .f32
  | 0 => addf (broadcast S256x1 (Scalar.ofBits .f32 0x00000000#32)) (firstColumn i (BitVec.ofNat 32 0) (X 0))
  | n + 1 => addf (columnSum i X n) (firstColumn i (BitVec.ofNat 32 (n + 1)) (X (n + 1)))

/-- The elementwise minimum of the first `n + 1` tiles. -/
def tileMin (X : ℕ → FVec F S256x256 .f32) : ℕ → FVec F S256x256 .f32
  | 0 => X 0
  | n + 1 => minimumf (tileMin X n) (X (n + 1))

/-- A tile with 1e9 on its diagonal. -/
def offDiagonal (x : FVec F S256x256 .f32) : FVec F S256x256 .f32 :=
  select (cmpi .eq (broadcastTo S256x256 (iota .tc S256x1 32 [0] iota_S256x1_d0_w32) broadcasts_S256x1_S256x256)
      (broadcastTo S256x256 (iota .tc S1x256 32 [1] iota_S1x256_d1_w32) broadcasts_S1x256_S256x256))
    (broadcast S256x256 (Scalar.ofBits .f32 0x4E6E6B28#32)) x

/-- The tiles of the first sweep: the first, which is the point's own, without its diagonal. -/
def maskedFirst (X : ℕ → FVec F S256x256 .f32) : ℕ → FVec F S256x256 .f32
  | 0 => offDiagonal (X 0)
  | n + 1 => X (n + 1)

/-- The least entry of every row. -/
def rowMin (x : FVec F S256x256 .f32) : FVec F S256x1 .f32 :=
  shapeCast S256x1 (multiReduction .minimumf [1] S256 x 0x7F800000#32 reduces_S256x256_S256 (.inl rfl) rfl) shapeCasts_S256_S256x1

/-- The squared distance to row 0, from its product. -/
def zeroSq (s : FVec F S256x1 .f32) : FVec F S256x1 .f32 :=
  maximumf (select (cmpf .olt s (broadcast S256x1 (Scalar.ofBits .f32 0xC5000000#32)))
    (addf s (broadcast S256x1 (Scalar.ofBits .f32 0x45800000#32))) s) (broadcast S256x1 (Scalar.ofBits .f32 0x00000000#32))

/-- The squared distance to the positive, from the least product. -/
def posSq (p z : FVec F S256x1 .f32) : FVec F S256x1 .f32 :=
  select (cmpf .olt p (broadcast S256x1 (Scalar.ofBits .f32 0xC5000000#32)))
    (maximumf (addf p (broadcast S256x1 (Scalar.ofBits .f32 0x45800000#32))) (broadcast S256x1 (Scalar.ofBits .f32 0x00000000#32))) z

/-- The squared distance below which a negative is semi-hard. -/
def boundSq (p : FVec F S256x1 .f32) : FVec F S256x1 .f32 :=
  mulf (addf (sqrt p) (broadcast S256x1 (Scalar.ofBits .f32 0x3F800000#32)))
    (addf (sqrt p) (broadcast S256x1 (Scalar.ofBits .f32 0x3F800000#32)))

/-- A tile with 1e9 at the entries not above the row's `p`. -/
def beyond (p : FVec F S256x1 .f32) (x : FVec F S256x256 .f32) : FVec F S256x256 .f32 :=
  select (cmpf .ogt x (broadcastTo S256x256 p broadcasts_S256x1_S256x256)) x (broadcast S256x256 (Scalar.ofBits .f32 0x4E6E6B28#32))

/-- The squared distance to the hard negative. -/
def hardSq (h z : FVec F S256x1 .f32) : FVec F S256x1 .f32 :=
  select (cmpf .olt h (broadcast S256x1 (Scalar.ofBits .f32 0x45000000#32)))
    (maximumf h (broadcast S256x1 (Scalar.ofBits .f32 0x00000000#32))) z

/-- The squared distance to the chosen negative. -/
def negSq (s b h : FVec F S256x1 .f32) : FVec F S256x1 .f32 :=
  select (cmpf .olt s b) (maximumf s (broadcast S256x1 (Scalar.ofBits .f32 0x00000000#32))) h

/-- The loss of every row. -/
def rowLoss (p n : FVec F S256x1 .f32) : FVec F S256x1 .f32 :=
  maximumf (addf (subf (sqrt (addf p (broadcast S256x1 (Scalar.ofBits .f32 0x2B8CBCCC#32))))
    (sqrt (addf n (broadcast S256x1 (Scalar.ofBits .f32 0x2B8CBCCC#32))))) (broadcast S256x1 (Scalar.ofBits .f32 0x3F800000#32)))
    (broadcast S256x1 (Scalar.ofBits .f32 0x00000000#32))

/-- The sum of 256 losses. -/
def sumRows (l : FVec F S256x1 .f32) : F .f32 :=
  extractAt ![0, 0, 0] (shapeCast S1x1x1 (multiReduction .add [1, 2] S1 (shapeCast S1x256x1 l shapeCasts_S256x1_S1x256x1)
    0x00000000#32 reduces_S1x256x1_S1 (.inl rfl) rfl) shapeCasts_S1_S1x1x1) inpos_S1x1x1_p0_0_0

section
variable (i : grid0.Coords) (v : Vec F S256x118 .f32) (N P : ℕ → Vec F S256x118 .f32)

/-- The squared distances to row 0, to the positive and to the negative, for 256 rows `v` against the sixteen tiles
    `P n` of the first sweep and `N n` of the second. -/
def pointZero : FVec F S256x1 .f32 := zeroSq (columnSum i (fun n => product v (P n)) 15)
/-- The squared distances of the positives. -/
def pointPos : FVec F S256x1 .f32 := posSq (rowMin (tileMin (maskedFirst fun n => product v (P n)) 15)) (pointZero i v P)
/-- The least shifted squared distances of the negatives. -/
def pointHard : FVec F S256x1 .f32 := rowMin (tileMin (fun n => product v (N n)) 15)
/-- The least shifted squared distances beyond the positives. -/
def pointSemi : FVec F S256x1 .f32 := rowMin (tileMin (fun n => beyond (pointPos i v P) (product v (N n))) 15)
/-- The squared distances of the negatives. -/
def pointNeg : FVec F S256x1 .f32 :=
  negSq (pointSemi i v N P) (boundSq (pointPos i v P)) (hardSq (pointHard v N) (pointZero i v P))

/-- The losses of the point's rows, and the running total with them added. -/
def pointLoss : FVec F S256x1 .f32 := rowLoss (pointPos i v P) (pointNeg i v N P)
/-- The output with the losses of a point added. -/
def pointAdd (xo : Vec F S1x1 .f32) : Vec F S1x1 .f32 :=
  addf (shapeCast S1x1 xo shapeCasts_S1x1_S1x1) (broadcast S1x1 (sumRows (pointLoss i v N P)))
end

/-- The tiles of a sweep over the rows `X`, in the order point `i` takes them. -/
def sweep (i : grid0.Coords) (X : Vec F S4096x118 .f32) (n : ℕ) : Vec F S256x118 .f32 := tileRows X (((i 0).val + n) % 16)

end Cert.Triplet

end
-- ==== Proof.Consts.lean ====
module

public import Idealize.ShloMosaic.Lib.Pointwise

@[expose] public section

noncomputable section

namespace Cert.Triplet

open Idealize.ShloMosaic

/-! ## The constants of both programs, as real numbers -/

/-- The word of a constant is its value. -/
theorem const_neg2 : Ideal.ofBits .f32 0xC0000000#32 = ((-2 : ℝ) : EReal) := by
  simp [Ideal.ofBits, Ideal.ieee, -EReal.coe_mul]; norm_num
/-- The word of a constant is its value. -/
theorem const_two : Ideal.ofBits .f32 0x40000000#32 = ((2 : ℝ) : EReal) := by
  simp [Ideal.ofBits, Ideal.ieee, -EReal.coe_mul]; norm_num
/-- The word of a constant is its value. -/
theorem const_4096 : Ideal.ofBits .f32 0x45800000#32 = ((4096 : ℝ) : EReal) := by
  simp [Ideal.ofBits, Ideal.ieee, -EReal.coe_mul]; norm_num
/-- The word of a constant is its value. -/
theorem const_neg4096 : Ideal.ofBits .f32 0xC5800000#32 = ((-4096 : ℝ) : EReal) := by
  simp [Ideal.ofBits, Ideal.ieee, -EReal.coe_mul]; norm_num
/-- The word of a constant is its value. -/
theorem const_2048 : Ideal.ofBits .f32 0x45000000#32 = ((2048 : ℝ) : EReal) := by
  simp [Ideal.ofBits, Ideal.ieee, -EReal.coe_mul]; norm_num
/-- The word of a constant is its value. -/
theorem const_neg2048 : Ideal.ofBits .f32 0xC5000000#32 = ((-2048 : ℝ) : EReal) := by
  simp [Ideal.ofBits, Ideal.ieee, -EReal.coe_mul]; norm_num
/-- The word of a constant is its value. -/
theorem const_big : Ideal.ofBits .f32 0x4E6E6B28#32 = ((1000000000 : ℝ) : EReal) := by
  simp [Ideal.ofBits, Ideal.ieee, -EReal.coe_mul]; norm_num
/-- The word of a constant is its value. -/
theorem const_512 : Ideal.ofBits .f32 0x44000000#32 = ((512 : ℝ) : EReal) := by
  simp [Ideal.ofBits, Ideal.ieee, -EReal.coe_mul]; norm_num
/-- The word of a constant is its value. -/
theorem const_inv4096 : Ideal.ofBits .f32 0x39800000#32 = ((1 / 4096 : ℝ) : EReal) := by
  simp [Ideal.ofBits, Ideal.ieee, -EReal.coe_mul]; norm_num
/-- The word of the argmin's start is infinity. -/
theorem const_top : Ideal.ofBits .f32 0x7F800000#32 = ⊤ := by
  simp [Ideal.ofBits, Ideal.ieee]

/-- The small number both programs add under the roots. -/
def eps : ℝ := 9223372 / 9223372036854775808
/-- The word of the small number is its value. -/
theorem const_eps : Ideal.ofBits .f32 0x2B8CBCCC#32 = (eps : EReal) := by
  simp [Ideal.ofBits, Ideal.ieee, eps, -EReal.coe_mul]; norm_num
/-- The small number is positive. -/
theorem eps_pos : 0 < eps := by unfold eps; norm_num

end Cert.Triplet

end
-- ==== Proof.Products.lean ====
module

public import Idealize.ShloMosaic.Lib.Pointwise
public import proofs.«01_k».proof.Proof.PointSum
public import proofs.«01_k».proof.Proof.Consts

@[expose] public section

set_option maxRecDepth 16384

noncomputable section

namespace Cert.Triplet

open Idealize.ShloMosaic Idealize.ShloMosaic.TcCoe
open Cert.KernelIdeal Cert.KernelIdeal.Gen

/-- A sum of reals, read in the extended reals. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A choice on the equality of two words. -/
theorem select_eq {α : Type} (x y : BitVec 32) (u v : α) : Scalar.select (IntOp.cmpi .eq x y) u v = if x = y then u else v := by
  unfold Scalar.select IntOp.cmpi
  by_cases h : x = y
  · simp [h]
  · have hb : (x == y) = false := by simpa using h
    simp [h, hb]

section
variable (e : Fin 4096 → Fin 16 → ℝ) (lab : Fin 4096 → BitVec 32)

/-- The squared norm of a row. -/
def normSq (a : Fin 4096) : ℝ := ∑ k, e a k * e a k
/-- The squared distance of two rows, as both programs compute it. -/
def pairSq (a b : Fin 4096) : ℝ := normSq e a + normSq e b - 2 * ∑ k, e a k * e b k

/-- The real entries of the built rows. -/
def rowL (a : Fin 4096) (k : Fin 118) : ℝ :=
  if h : k.val < 16 then e a ⟨k.val, h⟩ else if k.val = 16 then normSq e a else if k.val = 17 then 1
  else if lab a = BitVec.ofNat 32 (k.val - 18) then 1 else 0
/-- The real entries of the rows that the products take on the right, at a shift. -/
def rowR (s : ℝ) (a : Fin 4096) (k : Fin 118) : ℝ :=
  if h : k.val < 16 then e a ⟨k.val, h⟩ * (-2) else if k.val = 16 then 1 else if k.val = 17 then normSq e a
  else if lab a = BitVec.ofNat 32 (k.val - 18) then s else 0

/-- Two one-hot label rows meet once where the labels are equal. -/
theorem sum_labels (x y : BitVec 32) (s : ℝ) (hx : x.toNat < 100) :
    (∑ k : Fin 100, (if x = BitVec.ofNat 32 k.val then (1 : ℝ) else 0) * (if y = BitVec.ofNat 32 k.val then s else 0)) = if x = y then s else 0 := by
  have hx' : x = BitVec.ofNat 32 x.toNat := by simp
  rw [Finset.sum_eq_single (⟨x.toNat, hx⟩ : Fin 100)]
  · simp only [← hx', if_true, one_mul, eq_comm]
  · intro k _ hk
    rw [if_neg, zero_mul]
    intro h
    refine hk (Fin.ext ?_)
    have := congrArg BitVec.toNat h
    rw [BitVec.toNat_ofNat, Nat.mod_eq_of_lt (by have := k.isLt; omega)] at this
    exact this.symm
  · simp

/-- The product of two built rows: the squared distance, with `s` added where the labels are equal. -/
theorem row_product (s : ℝ) (a b : Fin 4096) (ha : (lab a).toNat < 100) :
    (∑ k, rowL e lab a k * rowR e lab s b k) = pairSq e a b + if lab a = lab b then s else 0 := by
  rw [show (∑ k : Fin 118, rowL e lab a k * rowR e lab s b k) = ∑ k : Fin (16 + (1 + (1 + 100))), rowL e lab a k * rowR e lab s b k from rfl,
    Fin.sum_univ_add, Fin.sum_univ_add, Fin.sum_univ_add, ← sum_labels (lab a) (lab b) s ha]
  have h1 : ∀ k : Fin 16, rowL e lab a (Fin.castAdd (1 + (1 + 100)) k) * rowR e lab s b (Fin.castAdd (1 + (1 + 100)) k) = -2 * (e a k * e b k) := by
    intro k
    simp only [rowL, rowR, Fin.val_castAdd, k.isLt, dif_pos]
    ring
  have h4 : ∀ k : Fin 100, rowL e lab a (Fin.natAdd 16 (Fin.natAdd 1 (Fin.natAdd 1 k))) * rowR e lab s b (Fin.natAdd 16 (Fin.natAdd 1 (Fin.natAdd 1 k)))
      = (if lab a = BitVec.ofNat 32 k.val then (1 : ℝ) else 0) * (if lab b = BitVec.ofNat 32 k.val then s else 0) := by
    intro k
    simp only [rowL, rowR, Fin.val_natAdd]
    have n0 : ¬16 + (1 + (1 + k.val)) < 16 := by omega
    have n1 : ¬16 + (1 + (1 + k.val)) = 16 := by omega
    have n2 : ¬16 + (1 + (1 + k.val)) = 17 := by omega
    have n3 : 16 + (1 + (1 + k.val)) - 18 = k.val := by omega
    simp only [n0, n1, n2, n3, dif_neg, if_neg, not_false_eq_true]
  rw [Finset.sum_congr rfl fun k _ => h1 k, Finset.sum_congr rfl fun k _ => h4 k, ← Finset.mul_sum]
  simp [rowL, rowR, pairSq]
  ring

/-- The squared distance as a sum of squares. -/
theorem pairSq_eq (a b : Fin 4096) : pairSq e a b = ∑ k, (e a k - e b k) * (e a k - e b k) := by
  unfold pairSq normSq
  rw [Finset.mul_sum, ← Finset.sum_add_distrib, ← Finset.sum_sub_distrib]
  exact Finset.sum_congr rfl fun k _ => by ring

/-- A squared distance is not negative. -/
theorem pairSq_nonneg (a b : Fin 4096) : 0 ≤ pairSq e a b := by
  rw [pairSq_eq]
  exact Finset.sum_nonneg fun k _ => mul_self_nonneg _

/-- Rows of squared norm below 512 are at squared distance below 2048. -/
theorem pairSq_lt (hn : ∀ a, normSq e a < 512) (a b : Fin 4096) : pairSq e a b < 2048 := by
  have h : pairSq e a b ≤ 2 * normSq e a + 2 * normSq e b := by
    rw [pairSq_eq]
    unfold normSq
    rw [Finset.mul_sum, Finset.mul_sum, ← Finset.sum_add_distrib]
    exact Finset.sum_le_sum fun k _ => by nlinarith [mul_self_nonneg (e a k + e b k)]
  have := hn a; have := hn b
  linarith
end

section
variable {x0 : FVec Ideal S4096x16 .f32} {x1 : IVec S4096x1 32} {e : Fin 4096 → Fin 16 → ℝ} (he : ∀ a k, x0 (ix2 a k) = (e a k : EReal))
include he

/-- The sum of a row's squares is its squared norm. -/
theorem sum_sq (a : Fin 4096) : (∑ k, x0 (ix2 a k) * x0 (ix2 a k)) = (normSq e a : EReal) := by
  unfold normSq
  rw [← coe_sum]
  exact Finset.sum_congr rfl fun k _ => by rw [he, EReal.coe_mul]

/-- The rows built on the left, as real numbers. -/
theorem left_read (a : Fin 4096) (k : Fin 118) : k0_pay5 (F := Ideal) x0 x1 (ix2 a k) = (rowL e (fun a => x1 (ix2 a 0)) a k : EReal) := by
  pointwise [k0_pay5, k0_pay2, k0_pay3, k0_pay4]
  simp only [sum_sq he, he, select_eq]
  unfold rowL
  by_cases h0 : k.val < 16
  · rw [dif_pos h0, dif_pos h0]
  by_cases h1 : k.val = 16
  · rw [dif_neg h0, dif_pos (by omega), dif_neg h0, if_pos h1]
    simp only [normSq, ← coe_sum, EReal.coe_mul]
  by_cases h2 : k.val = 17
  · rw [dif_neg h0, dif_neg (by omega), dif_pos (by omega), dif_neg h0, if_neg h1, if_pos h2]; rfl
  · rw [dif_neg h0, dif_neg (by omega), dif_neg (by omega), dif_neg h0, if_neg h1, if_neg h2, show k.val - 16 - 1 - 1 = k.val - 18 by omega]
    split_ifs <;> rfl
/-- The rows built for the second sweep, as real numbers. -/
theorem neg_read (a : Fin 4096) (k : Fin 118) : k0_pay6 (F := Ideal) x0 x1 (ix2 a k) = (rowR e (fun a => x1 (ix2 a 0)) 4096 a k : EReal) := by
  pointwise [k0_pay6, k0_pay2, k0_pay3, k0_pay4]
  simp only [sum_sq he, he, select_eq, const_neg2, const_4096, ← EReal.coe_mul]
  unfold rowR
  by_cases h0 : k.val < 16
  · rw [dif_pos h0, dif_pos h0]
  by_cases h1 : k.val = 16
  · rw [dif_neg h0, dif_pos (by omega), dif_neg h0, if_pos h1]; rfl
  by_cases h2 : k.val = 17
  · rw [dif_neg h0, dif_neg (by omega), dif_pos (by omega), dif_neg h0, if_neg h1, if_pos h2]
    simp only [normSq, ← coe_sum, EReal.coe_mul]
  · rw [dif_neg h0, dif_neg (by omega), dif_neg (by omega), dif_neg h0, if_neg h1, if_neg h2, show k.val - 16 - 1 - 1 = k.val - 18 by omega]
    split_ifs <;> rfl
/-- The rows built for the first sweep, as real numbers. -/
theorem pos_read (a : Fin 4096) (k : Fin 118) : k0_pay7 (F := Ideal) x0 x1 (ix2 a k) = (rowR e (fun a => x1 (ix2 a 0)) (-4096) a k : EReal) := by
  pointwise [k0_pay7, k0_pay2, k0_pay3, k0_pay4]
  simp only [sum_sq he, he, select_eq, const_neg2, const_neg4096, ← EReal.coe_mul]
  unfold rowR
  by_cases h0 : k.val < 16
  · rw [dif_pos h0, dif_pos h0]
  by_cases h1 : k.val = 16
  · rw [dif_neg h0, dif_pos (by omega), dif_neg h0, if_pos h1]; rfl
  by_cases h2 : k.val = 17
  · rw [dif_neg h0, dif_neg (by omega), dif_pos (by omega), dif_neg h0, if_neg h1, if_pos h2]
    simp only [normSq, ← coe_sum, EReal.coe_mul]
  · rw [dif_neg h0, dif_neg (by omega), dif_neg (by omega), dif_neg h0, if_neg h1, if_neg h2, show k.val - 16 - 1 - 1 = k.val - 18 by omega]
    split_ifs <;> rfl
end

end Cert.Triplet

end
-- ==== Proof.Range.lean ====
module

public import Idealize.ShloMosaic.Lib.Pointwise
public import Idealize.ShloMosaic.Lib.ReduceAll
public import Idealize.ShloMosaic.PureOps.Ideal.Laws
public import proofs.«01_k».proof.Pre_in_range
public import proofs.«01_k».proof.Proof.Products
public import proofs.«01_k».proof.Proof.Consts

@[expose] public section

set_option maxRecDepth 16384

noncomputable section

namespace Cert.Triplet

open Idealize.ShloMosaic
open Cert.Pre_in_range

/-! # What the precondition gives: real rows of squared norm below 512, and labels below 100 -/

/-- The side conditions the predicate states. -/
theorem rangeFacts : Cert.Pre_in_range.Facts where
  reducesTo_S4096x16_S4096_d1 := by decide
  h_S_ := by decide
  bcast_S_S4096 := by decide
  reducesTo_S4096_S_d0 := by decide

/-- A square is not negative. -/
theorem square_nonneg (x : EReal) : 0 ≤ x * x := by
  induction x with
  | bot => simp
  | top => simp
  | coe r => rw [← EReal.coe_mul]; exact_mod_cast mul_self_nonneg r
/-- A number with a square below a real bound is real. -/
theorem real_of_square {x : EReal} {b : ℝ} (h : x * x < (b : EReal)) : ((x.toReal : ℝ) : EReal) = x := by
  induction x with
  | bot => exact absurd h (by simp)
  | top => exact absurd h (by simp)
  | coe r => rfl

/-- A test that came out one holds. -/
theorem of_ofBool {p : Prop} [Decidable p] (h : BitVec.ofBool (decide p) = 1#1) : p := by
  by_contra hp
  rw [decide_eq_false hp] at h
  exact absurd h (by decide)

/-- A label in the signed range is below 100 as a word. -/
theorem label_lt {t : BitVec 32} (h0 : IntOp.cmpi .sge t 0#32 = 1#1) (h1 : IntOp.cmpi .slt t 100#32 = 1#1) : t.toNat < 100 := by
  have a0 : (0 : ℤ) ≤ t.toInt := of_ofBool (by simpa [IntOp.cmpi, BitVec.sle] using h0)
  have a1 : t.toInt < 100 := of_ofBool (by simpa [IntOp.cmpi, BitVec.slt] using h1)
  rw [BitVec.toInt_eq_toNat_cond] at a0 a1
  have := t.isLt
  split_ifs at a0 a1 <;> omega

section
variable (x : FVec Ideal S4096x16 .f32) (t : IVec S4096 32)

/-- The predicate bounds every row and every label. -/
theorem range_split [Facts] (h : fn (F := Ideal) x t = fun _ => 1#1) :
    (∀ a, (∑ k : Fin 16, x (ix2 a k) * x (ix2 a k) : EReal) < ((512 : ℝ) : EReal)) ∧ ∀ a, (t (ix1 a)).toNat < 100 := by
  have h0 := congrFun h ix0
  unfold fn at h0
  obtain ⟨h1, h2⟩ := IntOp.andi_eq_one.mp h0
  haveI : Subsingleton S_.Idx := ⟨fun i j => funext fun d => d.elim0⟩
  refine ⟨fun a => ?_, fun a => ?_⟩
  · have := Host.reduce_andi_all _ _ _ _ _ h1 (ix1 a)
    revert this
    pointwise
    rw [const_512]
    exact fun h => of_ofBool h
  · obtain ⟨h3, h4⟩ := IntOp.andi_eq_one.mp (Host.reduce_andi_all _ _ _ _ _ h2 (ix1 a))
    exact label_lt h3 h4

/-- The rows of in-range embeddings are real, and their squared norms and the labels are bounded. -/
theorem range_real [Facts] (h : fn (F := Ideal) x t = fun _ => 1#1) :
    (∀ a k, x (ix2 a k) = ((x (ix2 a k)).toReal : EReal)) ∧ (∀ a, normSq (fun a k => (x (ix2 a k)).toReal) a < 512) ∧ ∀ a, (t (ix1 a)).toNat < 100 := by
  obtain ⟨hs, ht⟩ := range_split x t h
  have hr : ∀ a k, x (ix2 a k) = ((x (ix2 a k)).toReal : EReal) := fun a k =>
    (real_of_square ((Finset.single_le_sum (f := fun k : Fin 16 => x (ix2 a k) * x (ix2 a k)) (fun k _ => square_nonneg _) (Finset.mem_univ k)).trans_lt (hs a))).symm
  refine ⟨hr, fun a => ?_, ht⟩
  have := hs a
  rw [sum_sq (e := fun a k => (x (ix2 a k)).toReal) hr a] at this
  exact EReal.coe_lt_coe_iff.mp this
end

end Cert.Triplet

end
-- ==== Proof.PointRead.lean ====
module

public import Idealize.ShloMosaic.Lib.Pipeline.ValueKit
public import proofs.«01_k».proof.Proof.Contents
public import proofs.«01_k».proof.Proof.PointSum

@[expose] public section

set_option maxRecDepth 16384

noncomputable section

namespace Cert.Triplet

open Idealize.ShloMosaic Idealize.ShloMosaic.TcCoe Idealize.ShloMosaic.Tactic
open Cert.KernelIdeal Cert.KernelIdeal.Gen

variable {F : FTy → Type} [FloatOps F]

/-- A load of a whole buffer's contents is the rectangle of those contents. -/
theorem readAt_unread {sp : Space} {s : Shape} {e : EltTy} {a : Memref sig .tc sp s e} (h : a.IsWhole)
    (X : s.Idx → Elt F e) (r : Rect s) : View.readAt (Elt F) a.view r.toLoadRect (h.unread X) = View.ld X r := by
  rw [View.readAt_eq_ld, h.read_unread]

/-- A load of 256 rows from row `256·k` is tile `k`. -/
theorem ld_tile (X : Vec F S4096x118 .f32) (off : Fin 2 → ℕ) (k : ℕ) (hk : k < 16) (ho : off = ![256 * k, 0])
    (inb : ∀ a, off a + S256x118.size a ≤ S4096x118.size a) :
    View.ld (Val := Elt F) X (Rect.unit (s := S4096x118) off S256x118.size inb) = tileRows X k := by
  subst ho
  rw [View.ld_unit]
  funext y
  refine congrArg X (funext fun a => ?_)
  fin_cases a
  · have hy : (y 0).val < 256 := (y 0).isLt
    exact Fin.ext (show 256 * k + (y 0).val = (256 * k + (y 0).val) % 4096 from (Nat.mod_eq_of_lt (by omega)).symm)
  · exact Fin.ext (Nat.zero_add _)

/-- The rows a step loads are rows of the buffer. -/
theorem step_inb (i : grid0.Coords) (n : ℕ) : ∀ a, k0_off2 i (BitVec.ofNat 32 (n % 16)) a + S256x118.size a ≤ S4096x118.size a := by
  rw [show k0_off2 i (BitVec.ofNat 32 (n % 16)) = _ from tile_off i ⟨n % 16, Nat.mod_lt _ (by decide)⟩]
  intro a
  have : ((i 0).val + n % 16) % 16 < 16 := Nat.mod_lt _ (by decide)
  fin_cases a
  · show 256 * (((i 0).val + n % 16) % 16) + 256 ≤ 4096
    omega
  · show 0 + 118 ≤ 118
    omega

/-- The rows a load at step `n` takes, of contents `f`. -/
def stepLoad {a : Memref sig .tc .vmem S4096x118 .f32} (f : a.view.ty.Contents (Elt F)) (i : grid0.Coords) (n : ℕ) : Vec F S256x118 .f32 :=
  View.readAt (Elt F) a.view (Rect.unit (s := S4096x118) (k0_off2 i (BitVec.ofNat 32 (n % 16))) S256x118.size (step_inb i n)).toLoadRect f
/-- The rows of the point itself. -/
def ownLoad {a : Memref sig .tc .vmem S4096x118 .f32} (f : a.view.ty.Contents (Elt F)) (i : grid0.Coords) : Vec F S256x118 .f32 :=
  View.readAt (Elt F) a.view (Rect.unit (s := S4096x118) (k0_off1 i) S256x118.size (k0_off1_inb i)).toLoadRect f

section
variable (c : Dev nD) (i : grid0.Coords)
  (arg3 : Memref sig .tc .vmem S1x1 .f32) (harg3 : arg3.IsWhole) (arg4 : Memref sig .tc .vmem S4096x118 .f32) (harg4 : arg4.IsWhole)
  (arg5 : Memref sig .tc .vmem S4096x118 .f32) (harg5 : arg5.IsWhole) (arg6 : Memref sig .tc .vmem S4096x118 .f32) (harg6 : arg6.IsWhole)
  (xo : Vec F S1x1 .f32) (xl xn xp : Vec F S4096x118 .f32)

/-- A middle point's stored word is the sum of its losses added to the output. -/
theorem middle_word : runMiddle.sl.r_46 c i arg3 harg3 arg4 harg4 arg5 harg5 arg6 harg6 xo xl xn xp
    = pointAdd i (ownLoad (harg4.unread xl) i) (stepLoad (harg5.unread xn) i) (stepLoad (harg6.unread xp) i)
      (View.readAt (Elt F) arg3.view (Rect.unit (s := S1x1) ![0, 0] S1x1.size inb_S1x1_S1x1_0_0).toLoadRect (harg3.unread xo)) := by
  sl_kernel_rfl

/-- The last point's stored word, before the division. -/
theorem last_word : runLast.sl.r_46 c i arg3 harg3 arg4 harg4 arg5 harg5 arg6 harg6 xo xl xn xp
    = pointAdd i (ownLoad (harg4.unread xl) i) (stepLoad (harg5.unread xn) i) (stepLoad (harg6.unread xp) i)
      (View.readAt (Elt F) arg3.view (Rect.unit (s := S1x1) ![0, 0] S1x1.size inb_S1x1_S1x1_0_0).toLoadRect (harg3.unread xo)) := by
  sl_kernel_rfl
end

/-- The same at the first point, whose rows are those it has just built, over a total of zero. -/
theorem first_word (c : Dev nD) (i : grid0.Coords) (arg1 : Memref sig .tc .vmem S4096x16 .f32) (harg1 : arg1.IsWhole)
    (arg2 : Memref sig .tc .vmem S4096x1 .i32) (harg2 : arg2.IsWhole) (arg3 : Memref sig .tc .vmem S1x1 .f32) (harg3 : arg3.IsWhole)
    (arg4 arg5 arg6 : Memref sig .tc .vmem S4096x118 .f32) (x0 : Vec F S4096x16 .f32) (x1 : Vec F S4096x1 .i32) :
    runFirst.sl.r_44 c i arg1 harg1 arg2 harg2 arg3 arg4 arg5 arg6 x0 x1
    = pointAdd i (ownLoad (arg4.view.writes (Elt F) arg4.view.junk (runFirst.sl.HS0_1 c arg1 harg1 arg2 harg2 x0 x1)) i)
      (stepLoad (arg5.view.writes (Elt F) arg5.view.junk (runFirst.sl.HS1_1 c arg1 harg1 arg2 harg2 x0 x1)) i)
      (stepLoad (arg6.view.writes (Elt F) arg6.view.junk (runFirst.sl.HS2_1 c arg1 harg1 arg2 harg2 x0 x1)) i)
      (View.readCov arg3.view runFirst.sl.H2_1 (Rect.unit (s := S1x1) ![0, 0] S1x1.size inb_S1x1_S1x1_0_0).toLoadRect) := by
  sl_kernel_rfl

/-- The offsets of a whole array are zero. -/
theorem zero_offs : (![0, 0] : Fin 2 → ℕ) = fun _ => 0 := by decide

/-- What a step loads of contents that read `X`. -/
theorem stepLoad_eq {a : Memref sig .tc .vmem S4096x118 .f32} (f : a.view.ty.Contents (Elt F)) (X : Vec F S4096x118 .f32)
    (h : a.view.read (Elt F) f = X) (i : grid0.Coords) : stepLoad f i = sweep i X := by
  funext n
  unfold stepLoad sweep
  rw [View.readAt_eq_ld, h]
  have ho : k0_off2 i (BitVec.ofNat 32 (n % 16)) = ![256 * (((i 0).val + n) % 16), 0] := by
    rw [show k0_off2 i (BitVec.ofNat 32 (n % 16)) = _ from tile_off i ⟨n % 16, Nat.mod_lt _ (by decide)⟩]
    simp
  exact ld_tile X _ _ (Nat.mod_lt _ (by decide)) ho _

/-- A point's own rows start at 256 times its coordinate. -/
theorem own_off : ∀ i : grid0.Coords, k0_off1 i = ![256 * (i 0).val, 0] := by decide +kernel

/-- What a point loads as its own rows. -/
theorem ownLoad_eq {a : Memref sig .tc .vmem S4096x118 .f32} (f : a.view.ty.Contents (Elt F)) (X : Vec F S4096x118 .f32)
    (h : a.view.read (Elt F) f = X) (i : grid0.Coords) : ownLoad f i = tileRows X (i 0).val := by
  unfold ownLoad
  rw [View.readAt_eq_ld, h]
  exact ld_tile X _ _ (i 0).isLt (own_off i) _

variable (m : (ℓ : Loc nD τ sig) → Buf (Elt F) ℓ) (c : Dev nD)

/-- The three arrays of rows the first point builds. -/
theorem leftRows_eq : leftRows m c = k0_pay5 (iblk m c 0 t0) (iblk m c 1 t0) := by
  unfold leftRows atFirst runFirst
  dsimp only
  unfold runFirst.sl.HS0_1
  rw [View.canon_unit_zero zero_offs, readAt_unread, readAt_unread, View.ld_unit_zero zero_offs, View.ld_unit_zero zero_offs]
/-- The second sweep's rows as a function of the arguments. -/
theorem negRows_eq : negRows m c = k0_pay6 (iblk m c 0 t0) (iblk m c 1 t0) := by
  unfold negRows atFirst runFirst
  dsimp only
  unfold runFirst.sl.HS1_1
  rw [View.canon_unit_zero zero_offs, readAt_unread, readAt_unread, View.ld_unit_zero zero_offs, View.ld_unit_zero zero_offs]
/-- The first sweep's rows as a function of the arguments. -/
theorem posRows_eq : posRows m c = k0_pay7 (iblk m c 0 t0) (iblk m c 1 t0) := by
  unfold posRows atFirst runFirst
  dsimp only
  unfold runFirst.sl.HS2_1
  rw [View.canon_unit_zero zero_offs, readAt_unread, readAt_unread, View.ld_unit_zero zero_offs, View.ld_unit_zero zero_offs]

/-- The running total with point `i`'s losses added. -/
def addPoint (i : grid0.Coords) (xo : Vec F S1x1 .f32) : Vec F S1x1 .f32 :=
  pointAdd i (tileRows (leftRows m c) (i 0).val) (sweep i (negRows m c)) (sweep i (posRows m c)) xo

/-- What the first point leaves in the output. -/
theorem first_value : View.canon (atFirst m c).1 = addPoint m c (grid0.coords t0) k0_pay80 := by
  unfold addPoint
  have e : View.canon (atFirst m c).1 = runFirst.sl.r_44 c (grid0.coords t0) (stE t0) (stE_whole t0) (stT t0) (stT_whole t0) (stO t0)
      scL scN scP (iblk m c 0 t0) (iblk m c 1 t0) := by
    unfold atFirst runFirst
    dsimp only
    exact View.canon_cons_unit_zero zero_offs _ _ _
  rw [e, first_word (harg3 := stO_whole t0), ownLoad_eq _ (leftRows m c), stepLoad_eq _ (negRows m c), stepLoad_eq _ (posRows m c)]
  · unfold runFirst.sl.H2_1
    rw [View.readCov_unit_zero _ zero_offs]
  · exact View.read_writes_eq_canon _ _ _ (coverPos m c)
  · exact View.read_writes_eq_canon _ _ _ (coverNeg m c)
  · exact View.read_writes_eq_canon _ _ _ (coverLeft m c)

/-- What a middle point leaves in the output. -/
theorem middle_value (t : Fin cfg0.N) (h0 : ¬t.val = 0) (h15 : ¬t.val = 15) (xo : Vec F S1x1 .f32) :
    View.canon (atMiddle m c t h0 h15 xo).1 = addPoint m c (grid0.coords t) xo := by
  unfold addPoint
  have e : View.canon (atMiddle m c t h0 h15 xo).1 = runMiddle.sl.r_46 c (grid0.coords t) (stO t) (stO_whole t)
      scL (Memref.isWhole_whole _) scN (Memref.isWhole_whole _) scP (Memref.isWhole_whole _) xo (leftRows m c) (negRows m c) (posRows m c) := by
    unfold atMiddle runMiddle
    dsimp only
    exact View.canon_unit_zero zero_offs _ _
  rw [e, middle_word, ownLoad_eq _ (leftRows m c) (Memref.IsWhole.read_unread _ _), stepLoad_eq _ (negRows m c) (Memref.IsWhole.read_unread _ _),
    stepLoad_eq _ (posRows m c) (Memref.IsWhole.read_unread _ _), readAt_unread, View.ld_unit_zero zero_offs]

/-- What the last point leaves in the output. -/
theorem last_value (t : Fin cfg0.N) (h15 : t.val = 15) (xo : Vec F S1x1 .f32) :
    View.canon (atLast m c t h15 xo).1 = k0_pay1 (addPoint m c (grid0.coords t) xo) := by
  unfold addPoint
  have e : View.canon (atLast m c t h15 xo).1 = k0_pay1 (runLast.sl.r_46 c (grid0.coords t) (stO t) (stO_whole t)
      scL (Memref.isWhole_whole _) scN (Memref.isWhole_whole _) scP (Memref.isWhole_whole _) xo (leftRows m c) (negRows m c) (posRows m c)) := by
    unfold atLast runLast
    dsimp only
    rw [View.canon_cons_unit_zero zero_offs]
    unfold runLast.sl.v744 runLast.sl.H2_1
    rw [View.readCov_unit_zero _ zero_offs]
  rw [e, last_word, ownLoad_eq _ (leftRows m c) (Memref.IsWhole.read_unread _ _), stepLoad_eq _ (negRows m c) (Memref.IsWhole.read_unread _ _),
    stepLoad_eq _ (posRows m c) (Memref.IsWhole.read_unread _ _), readAt_unread, View.ld_unit_zero zero_offs]

/-- The total after the point before the last, point by point. -/
theorem total_zero (h : 0 < cfg0.N) : totalAt m c 0 h = addPoint m c (grid0.coords ⟨0, h⟩) k0_pay80 := first_value m c
/-- The running total after a middle point. -/
theorem total_succ (n : ℕ) (h : n + 1 < cfg0.N) (hn : ¬n + 1 = 15) :
    totalAt m c (n + 1) h = addPoint m c (grid0.coords ⟨n + 1, h⟩) (totalAt m c n (Nat.lt_of_succ_lt h)) :=
  (dif_neg hn).trans (middle_value m c ⟨n + 1, h⟩ (Nat.succ_ne_zero n) hn _)
/-- The running total after the last point. -/
theorem total_end (h : 15 < cfg0.N) :
    totalAt m c 15 h = k0_pay1 (addPoint m c (grid0.coords ⟨15, h⟩) (totalAt m c 14 (Nat.lt_of_succ_lt h))) :=
  (dif_pos rfl).trans (last_value m c ⟨15, h⟩ rfl _)

end Cert.Triplet

end
-- ==== Proof.Mining.lean ====
module

public import Idealize.ShloMosaic.Lib.Pointwise

@[expose] public section

noncomputable section

namespace Cert.Triplet

/-! # The mining rule over the reals

One anchor `a`, its squared distances `d` to all rows, and which rows carry its label. The plain rule takes the first
row at which a cost is least; the kernel takes least squared distances shifted by 4096 where the label decides. -/

/-- `p` is the first index at which `f` is least. -/
def IsFirstMin (f : Fin 4096 → ℝ) (p : Fin 4096) : Prop := (∀ j, f p ≤ f j) ∧ ∀ j, j < p → f p < f j

section
variable (d : Fin 4096 → ℝ) (same : Fin 4096 → Prop) [DecidablePred same] (a : Fin 4096)

/-- The shift of a row's squared distance: 4096 where the label is the anchor's. -/
def shift (j : Fin 4096) : ℝ := if same j then 4096 else 0

/-- What the first sweep takes the least of, and the two of the second. -/
def posKey (j : Fin 4096) : ℝ := if j = a then 1000000000 else d j - shift same j
/-- What the second sweep minimises. -/
def hardKey (j : Fin 4096) : ℝ := d j + shift same j
/-- The same beyond the positive, and a large number elsewhere. -/
def semiKey (ps : ℝ) (j : Fin 4096) : ℝ := if ps < hardKey d same j then hardKey d same j else 1000000000

/-- The kernel's squared distances to row 0, to the positive and to the negative. -/
def zeroVal (p0 : ℝ) : ℝ := max (if p0 < -2048 then p0 + 4096 else p0) 0
/-- The squared distance of the positive, out of the least shifted one. -/
def posVal (pm z : ℝ) : ℝ := if pm < -2048 then max (pm + 4096) 0 else z
/-- The squared distance of the negative, out of the two least shifted ones. -/
def negVal (sm b hm z : ℝ) : ℝ := if sm < b then max sm 0 else if hm < 2048 then max hm 0 else z
/-- The square of the bound of the semi-hard negatives. -/
def boundVal (ps : ℝ) : ℝ := (Real.sqrt ps + 1) * (Real.sqrt ps + 1)

/-- The costs of the plain rule. -/
def posCost (j : Fin 4096) : ℝ := if same j ∧ ¬j = a then Real.sqrt (d j) else 1000000000
/-- What the reference minimises over the negatives. -/
def hardCost (j : Fin 4096) : ℝ := if ¬same j then Real.sqrt (d j) else 1000000000
/-- The semi-hard negatives of an anchor. -/
def IsSemi (pd : ℝ) (j : Fin 4096) : Prop := (¬same j ∧ pd < Real.sqrt (d j)) ∧ Real.sqrt (d j) < pd + 1
open Classical in
/-- What the reference minimises over the semi-hard negatives. -/
def semiCost (pd : ℝ) (j : Fin 4096) : ℝ := if IsSemi d same pd j then Real.sqrt (d j) else 1000000000

variable {d same a} (h0 : ∀ j, 0 ≤ d j) (h1 : ∀ j, d j < 2048)
include h0 h1

/-- Every distance is below the masking number. -/
theorem sqrt_lt_big (j : Fin 4096) : Real.sqrt (d j) < 1000000000 := by
  have : Real.sqrt (d j) < 2048 := by
    rw [Real.sqrt_lt' (by norm_num)]
    have := h1 j
    norm_num; linarith
  linarith

/-- The squared distance to row 0 is recovered from its shifted value. -/
theorem zeroVal_eq : zeroVal (d 0 - shift same 0) = d 0 := by
  unfold zeroVal shift
  have a0 := h0 0; have a1 := h1 0
  split_ifs with h h' h' <;> first | (rw [max_eq_left] <;> linarith) | (exfalso; linarith)

/-- A first minimum of a cost that is 1e9 everywhere is row 0. -/
theorem first_of_const {f : Fin 4096 → ℝ} {p : Fin 4096} (hp : IsFirstMin f p) (h : ∀ j, f j = 1000000000) : p = 0 := by
  by_contra hne
  have := hp.2 0 (Fin.pos_of_ne_zero hne)
  rw [h, h] at this
  exact lt_irrefl _ this

/-- The kernel's positive is at the plain rule's squared distance. -/
theorem posVal_eq {p : Fin 4096} {pm : ℝ} (hp : IsFirstMin (posCost d same a) p) (hm : IsLeast (Set.range (posKey d same a)) pm) :
    posVal pm (d 0) = d p := by
  obtain ⟨⟨j0, hj0⟩, hlow⟩ := hm
  have low : ∀ j, pm ≤ posKey d same a j := fun j => hlow ⟨j, rfl⟩
  by_cases hex : ∃ j, same j ∧ ¬j = a
  · obtain ⟨j1, hj1⟩ := hex
    have hpos : ∀ j, (same j ∧ ¬j = a) → posKey d same a j = d j - 4096 := fun j hj => by simp [posKey, shift, hj.1, hj.2]
    have hpm : pm < -2048 := by
      have := low j1; rw [hpos j1 hj1] at this
      have := h1 j1; linarith
    have hj0' : same j0 ∧ ¬j0 = a := by
      by_contra hn
      have : 0 ≤ posKey d same a j0 := by
        unfold posKey shift
        split_ifs with h h'
        · norm_num
        · exact absurd ⟨h', h⟩ hn
        · have := h0 j0; linarith
      linarith
    have hp' : same p ∧ ¬p = a := by
      by_contra hn
      have h := hp.1 j1
      simp only [posCost, hn, hj1, not_false_eq_true, and_self, if_true, if_false] at h
      have := sqrt_lt_big h0 h1 j1
      linarith
    have e1 : d p ≤ d j0 := by
      have h := hp.1 j0
      simp only [posCost, hp', hj0', not_false_eq_true, and_self, if_true] at h
      exact (Real.sqrt_le_sqrt_iff (h0 _)).mp h
    have e2 : d j0 ≤ d p := by
      have h := low p
      rw [← hj0, hpos j0 hj0', hpos p hp'] at h
      linarith
    rw [posVal, if_pos hpm, ← hj0, hpos j0 hj0', max_eq_left (by have := h0 j0; linarith)]
    linarith
  · have hn : ∀ j, ¬(same j ∧ ¬j = a) := fun j hj => hex ⟨j, hj⟩
    have hp0 : p = 0 := first_of_const h0 h1 hp fun j => by simp only [posCost, if_neg (hn j)]
    have hpm : ¬pm < -2048 := by
      have : 0 ≤ posKey d same a j0 := by
        unfold posKey shift
        split_ifs with h h'
        · norm_num
        · exact absurd ⟨h', h⟩ (hn j0)
        · have := h0 j0; linarith
      linarith
    rw [posVal, if_neg hpm, hp0]

/-- The kernel's hard negative is at the plain rule's squared distance. -/
theorem hardVal_eq {q : Fin 4096} {hm : ℝ} (hq : IsFirstMin (hardCost d same) q) (hl : IsLeast (Set.range (hardKey d same)) hm) :
    (if hm < 2048 then max hm 0 else d 0) = d q := by
  obtain ⟨⟨j0, hj0⟩, hlow⟩ := hl
  have low : ∀ j, hm ≤ hardKey d same j := fun j => hlow ⟨j, rfl⟩
  by_cases hex : ∃ j, ¬same j
  · obtain ⟨j1, hj1⟩ := hex
    have hneg : ∀ j, ¬same j → hardKey d same j = d j := fun j hj => by simp [hardKey, shift, hj]
    have hlt : hm < 2048 := by
      have := low j1; rw [hneg j1 hj1] at this
      have := h1 j1; linarith
    have hj0' : ¬same j0 := by
      intro h
      have : 4096 ≤ hardKey d same j0 := by
        simp only [hardKey, shift, h, if_true]
        have := h0 j0; linarith
      linarith
    have hq' : ¬same q := by
      intro hn
      have h := hq.1 j1
      simp only [hardCost, hn, hj1, not_true, not_false_eq_true, if_true, if_false] at h
      have := sqrt_lt_big h0 h1 j1
      linarith
    have e1 : d q ≤ d j0 := by
      have h := hq.1 j0
      simp only [hardCost, hq', hj0', not_false_eq_true, if_true] at h
      exact (Real.sqrt_le_sqrt_iff (h0 _)).mp h
    have e2 : d j0 ≤ d q := by
      have h := low q
      rwa [← hj0, hneg j0 hj0', hneg q hq'] at h
    rw [if_pos hlt, ← hj0, hneg j0 hj0', max_eq_left (h0 j0)]
    linarith
  · have hn : ∀ j, same j := fun j => by_contra fun h => hex ⟨j, h⟩
    have hq0 : q = 0 := first_of_const h0 h1 hq fun j => by simp only [hardCost, hn j, not_true, if_false]
    have hge : ¬hm < 2048 := by
      have : 4096 ≤ hardKey d same j0 := by
        simp only [hardKey, shift, hn j0, if_true]
        have := h0 j0; linarith
      linarith
    rw [if_neg hge, hq0]

/-- A row is semi-hard exactly where its key lies above the positive's squared distance and below the bound. -/
theorem semi_iff {ps : ℝ} (hps0 : 0 ≤ ps) (hps1 : ps < 2048) (j : Fin 4096) :
    IsSemi d same (Real.sqrt ps) j ↔ ps < hardKey d same j ∧ hardKey d same j < boundVal ps := by
  have hb : boundVal ps < 4096 := by
    have hs : Real.sqrt ps < 46 := by
      rw [Real.sqrt_lt' (by norm_num)]
      norm_num; linarith
    have := Real.sqrt_nonneg ps
    unfold boundVal
    nlinarith
  unfold IsSemi
  by_cases hsame : same j
  · have : hardKey d same j = d j + 4096 := by simp [hardKey, shift, hsame]
    constructor
    · rintro ⟨⟨h, _⟩, _⟩; exact absurd hsame h
    · rintro ⟨_, h⟩
      have := h0 j
      exfalso; linarith
  · have e : hardKey d same j = d j := by simp [hardKey, shift, hsame]
    rw [e, Real.sqrt_lt_sqrt_iff hps0, Real.sqrt_lt' (by have := Real.sqrt_nonneg ps; linarith)]
    simp only [hsame, not_false_eq_true, true_and, boundVal, pow_two]

/-- The kernel's negative is at the plain rule's squared distance. -/
theorem negVal_eq {ps sm hm : ℝ} {q s : Fin 4096} (hps0 : 0 ≤ ps) (hps1 : ps < 2048)
    (hq : IsFirstMin (hardCost d same) q) (hs : IsFirstMin (semiCost d same (Real.sqrt ps)) s)
    (hl : IsLeast (Set.range (hardKey d same)) hm) (hsl : IsLeast (Set.range (semiKey d same ps)) sm) (n : Fin 4096)
    (hn1 : (∃ j, IsSemi d same (Real.sqrt ps) j) → n = s) (hn2 : (¬∃ j, IsSemi d same (Real.sqrt ps) j) → n = q) :
    negVal sm (boundVal ps) hm (d 0) = d n := by
  obtain ⟨⟨j0, hj0⟩, hlow⟩ := hsl
  have low : ∀ j, sm ≤ semiKey d same ps j := fun j => hlow ⟨j, rfl⟩
  have hb : boundVal ps < 4096 := by
    have hs : Real.sqrt ps < 46 := by
      rw [Real.sqrt_lt' (by norm_num)]
      norm_num; linarith
    have := Real.sqrt_nonneg ps
    unfold boundVal
    nlinarith
  have key : ∀ j, IsSemi d same (Real.sqrt ps) j → semiKey d same ps j = d j := fun j hj => by
    have := (semi_iff h0 h1 hps0 hps1 j).mp hj
    rw [semiKey, if_pos this.1]
    simp [hardKey, shift, hj.1.1]
  by_cases hex : ∃ j, IsSemi d same (Real.sqrt ps) j
  · rw [hn1 hex]
    obtain ⟨j1, hj1⟩ := hex
    have hlt : sm < boundVal ps := by
      have a1 := low j1
      have a2 := (semi_iff h0 h1 hps0 hps1 j1).mp hj1
      rw [semiKey, if_pos a2.1] at a1
      linarith
    have hj0' : IsSemi d same (Real.sqrt ps) j0 := by
      rw [semi_iff h0 h1 hps0 hps1]
      unfold semiKey at hj0
      split_ifs at hj0 with h
      · exact ⟨h, by linarith⟩
      · exfalso; linarith
    have hs' : IsSemi d same (Real.sqrt ps) s := by
      by_contra hn
      have h := hs.1 j1
      simp only [semiCost, hn, hj1, if_true, if_false] at h
      have := sqrt_lt_big h0 h1 j1
      linarith
    have e1 : d s ≤ d j0 := by
      have h := hs.1 j0
      simp only [semiCost, hs', hj0', if_true] at h
      exact (Real.sqrt_le_sqrt_iff (h0 _)).mp h
    have e2 : d j0 ≤ d s := by
      have h := low s
      rwa [← hj0, key j0 hj0', key s hs'] at h
    rw [negVal, if_pos hlt, ← hj0, key j0 hj0', max_eq_left (h0 j0)]
    linarith
  · rw [hn2 hex]
    have hge : ¬sm < boundVal ps := by
      intro hlt
      refine hex ⟨j0, ?_⟩
      rw [semi_iff h0 h1 hps0 hps1]
      unfold semiKey at hj0
      split_ifs at hj0 with h
      · exact ⟨h, by linarith⟩
      · exfalso; linarith
    rw [negVal, if_neg hge]
    exact hardVal_eq h0 h1 hq hl
end

end Cert.Triplet

end
-- ==== Proof.PointRows.lean ====
module

public import Idealize.ShloMosaic.Lib.Pointwise
public import proofs.«01_k».proof.Proof.Products
public import proofs.«01_k».proof.Proof.Mining

@[expose] public section

set_option maxRecDepth 16384

noncomputable section

namespace Cert.Triplet

open Idealize.ShloMosaic Idealize.ShloMosaic.TcCoe
open Cert.KernelIdeal Cert.KernelIdeal.Gen

/-- Row `r` of tile `k`. -/
def rowOf (k : ℕ) (r : Fin 256) : Fin 4096 := ⟨(256 * k + r.val) % 4096, Nat.mod_lt _ (by decide)⟩

/-- A tile of the built rows, entry by entry. -/
theorem tileRows_read (X : FVec Ideal S4096x118 .f32) (k : ℕ) (r : Fin 256) (c : Fin 118) :
    tileRows (F := Ideal) X k (ix2 r c) = X (ix2 (rowOf k r) c) :=
  congrArg X (funext fun a => by fin_cases a <;> rfl)

/-- Every row is a row of one of the sixteen tiles, whichever comes first. -/
theorem rowOf_surj (i0 : ℕ) (j : Fin 4096) : ∃ n, n ≤ 15 ∧ ∃ l : Fin 256, rowOf ((i0 + n) % 16) l = j := by
  have hj := j.isLt
  refine ⟨(16 - i0 % 16 + j.val / 256) % 16, by omega, ⟨j.val % 256, Nat.mod_lt _ (by decide)⟩, Fin.ext ?_⟩
  have : (i0 + (16 - i0 % 16 + j.val / 256) % 16) % 16 = j.val / 256 := by omega
  simp only [rowOf, this]
  omega

/-- The root of a real number that is not negative. -/
theorem sqrt_of_nonneg {x : ℝ} (h : 0 ≤ x) : Ideal.sqrt (x : EReal) = (Real.sqrt x : EReal) := by
  rw [Ideal.sqrt_coe, if_neg (not_lt.mpr h)]
/-- The greater of two real numbers. -/
theorem coe_max (x y : ℝ) : max (x : EReal) (y : EReal) = ((max x y : ℝ) : EReal) :=
  (EReal.coe_strictMono.monotone.map_max).symm
/-- A choice between two real numbers. -/
theorem coe_ite (p : Prop) [Decidable p] (x y : ℝ) : (if p then (x : EReal) else (y : EReal)) = ((if p then x else y : ℝ) : EReal) := by
  split_ifs <;> rfl
/-- A choice by a comparison of real numbers. -/
theorem coe_ite_lt (a b x y : ℝ) : (if (a : EReal) < (b : EReal) then (x : EReal) else (y : EReal)) = ((if a < b then x else y : ℝ) : EReal) := by
  simp only [EReal.coe_lt_coe_iff, coe_ite]

/-- The running minimum of tiles is the least of their entries. -/
theorem tileMin_least (X : ℕ → FVec Ideal S256x256 .f32) (j : S256x256.Idx) (n : ℕ) :
    (∃ k, k ≤ n ∧ tileMin (F := Ideal) X n j = X k j) ∧ ∀ k, k ≤ n → tileMin (F := Ideal) X n j ≤ X k j := by
  induction n with
  | zero => exact ⟨⟨0, le_rfl, rfl⟩, fun k hk => by rw [Nat.le_zero.mp hk]; exact le_rfl⟩
  | succ n ih =>
    obtain ⟨⟨k0, hk0, e0⟩, low⟩ := ih
    have e : tileMin (F := Ideal) X (n + 1) j = min (tileMin (F := Ideal) X n j : EReal) (X (n + 1) j : EReal) := rfl
    rw [e]
    constructor
    · rcases le_total (tileMin (F := Ideal) X n j : EReal) (X (n + 1) j : EReal) with h | h
      · exact ⟨k0, by omega, (min_eq_left h).trans e0⟩
      · exact ⟨n + 1, le_rfl, min_eq_right h⟩
    · intro k hk
      rcases Nat.lt_or_ge k (n + 1) with h | h
      · exact (min_le_left _ _).trans (low k (by omega))
      · rw [show k = n + 1 by omega]; exact min_le_right _ _

/-- A row's minimum is the least of its entries. -/
theorem rowMin_least (x : FVec Ideal S256x256 .f32) (r : Fin 256) :
    (∃ l : Fin 256, rowMin (F := Ideal) x (ix2 r 0) = x (ix2 r l)) ∧ ∀ l : Fin 256, rowMin (F := Ideal) x (ix2 r 0) ≤ x (ix2 r l) := by
  have e : rowMin (F := Ideal) x (ix2 r 0) = Finset.fold min (⊤ : EReal) (fun l => (x (ix2 r l) : EReal)) Finset.univ := by
    pointwise [rowMin]
    rw [const_top]
  have low : ∀ l : Fin 256, Finset.fold min (⊤ : EReal) (fun l => (x (ix2 r l) : EReal)) Finset.univ ≤ x (ix2 r l) := fun l =>
    (Finset.fold_min_le _).mpr (Or.inr ⟨l, Finset.mem_univ _, le_rfl⟩)
  rw [e]
  refine ⟨?_, low⟩
  rcases (Finset.fold_min_le (s := Finset.univ) (b := (⊤ : EReal)) (f := fun l : Fin 256 => (x (ix2 r l) : EReal)) _).mp le_rfl with h | ⟨l, -, h⟩
  · exact ⟨0, le_antisymm (low 0) (le_trans le_top h)⟩
  · exact ⟨l, le_antisymm (low l) h⟩

/-- The minimum over a whole sweep is the least over all rows. -/
theorem sweep_least (i0 : ℕ) (X : ℕ → FVec Ideal S256x256 .f32) (r : Fin 256) (f : Fin 4096 → ℝ)
    (h : ∀ n, n ≤ 15 → ∀ l : Fin 256, X n (ix2 r l) = (f (rowOf ((i0 + n) % 16) l) : EReal)) :
    ∃ m : ℝ, IsLeast (Set.range f) m ∧ rowMin (F := Ideal) (tileMin X 15) (ix2 r 0) = (m : EReal) := by
  obtain ⟨⟨l0, e0⟩, low0⟩ := rowMin_least (tileMin (F := Ideal) X 15) r
  obtain ⟨⟨k0, hk0, e1⟩, -⟩ := tileMin_least X (ix2 r l0) 15
  refine ⟨f (rowOf ((i0 + k0) % 16) l0), ⟨⟨_, rfl⟩, ?_⟩, e0.trans (e1.trans (h k0 hk0 l0))⟩
  rintro _ ⟨j, rfl⟩
  obtain ⟨n, hn, l, rfl⟩ := rowOf_surj i0 j
  have a1 := low0 l
  have a2 := (tileMin_least X (ix2 r l) 15).2 n hn
  rw [h n hn l] at a2
  rw [e0, e1, h k0 hk0 l0] at a1
  exact EReal.coe_le_coe_iff.mp (a1.trans a2)

/-- A step starts at row 0 exactly where its tile is tile 0. -/
theorem start_zero : ∀ i : grid0.Coords, ∀ n : Fin 16,
    Scalar.cmpi .eq (startOf i (BitVec.ofNat 32 n.val)) 0#32 = BitVec.ofBool (decide (((i 0).val + n.val) % 16 = 0)) := by decide +kernel

/-- The entry of column 0, which only the tile at offset 0 gives. -/
theorem firstColumn_read (i : grid0.Coords) (n : ℕ) (hn : n ≤ 15) (x : FVec Ideal S256x256 .f32) (r : Fin 256) :
    firstColumn (F := Ideal) i (BitVec.ofNat 32 n) x (ix2 r 0) = if ((i 0).val + n) % 16 = 0 then (x (ix2 r 0) : EReal) else 0 := by
  pointwise [firstColumn]
  rw [show Scalar.cmpi .eq (startOf i (BitVec.ofNat 32 n)) 0#32 = _ from start_zero i ⟨n, by omega⟩]
  by_cases h : ((i 0).val + n) % 16 = 0 <;> simp [Scalar.select, h]

/-- The sum of the first columns is the first column of tile 0, once its step is past. -/
theorem columnSum_read (i : grid0.Coords) (X : ℕ → FVec Ideal S256x256 .f32) (r : Fin 256) (v : EReal)
    (h : ∀ n, n ≤ 15 → ((i 0).val + n) % 16 = 0 → X n (ix2 r 0) = v) (n : ℕ) (hn : n ≤ 15) :
    columnSum (F := Ideal) i X n (ix2 r 0) = if ∃ k, k ≤ n ∧ ((i 0).val + k) % 16 = 0 then v else 0 := by
  induction n with
  | zero =>
    have e : columnSum (F := Ideal) i X 0 (ix2 r 0) = (0 : EReal) + firstColumn (F := Ideal) i (BitVec.ofNat 32 0) (X 0) (ix2 r 0) := by
      show (Ideal.ofBits .f32 0x00000000#32 : EReal) + _ = _
      simp
    rw [e, firstColumn_read i 0 hn, zero_add]
    by_cases h0 : ((i 0).val + 0) % 16 = 0
    · rw [if_pos h0, if_pos ⟨0, le_rfl, h0⟩, h 0 hn h0]
    · rw [if_neg h0, if_neg]
      rintro ⟨k, hk, hk0⟩
      rw [Nat.le_zero.mp hk] at hk0
      exact h0 hk0
  | succ n ih =>
    have e : columnSum (F := Ideal) i X (n + 1) (ix2 r 0)
        = (columnSum (F := Ideal) i X n (ix2 r 0) : EReal) + firstColumn (F := Ideal) i (BitVec.ofNat 32 (n + 1)) (X (n + 1)) (ix2 r 0) := rfl
    rw [e, ih (by omega), firstColumn_read i (n + 1) hn]
    by_cases h1 : ((i 0).val + (n + 1)) % 16 = 0
    · rw [if_pos h1, if_pos (show ∃ k, k ≤ n + 1 ∧ ((i 0).val + k) % 16 = 0 from ⟨n + 1, le_rfl, h1⟩), h (n + 1) hn h1, if_neg, zero_add]
      rintro ⟨k, hk, hk0⟩
      omega
    · rw [if_neg h1, add_zero]
      refine if_congr ⟨?_, ?_⟩ rfl rfl
      · rintro ⟨k, hk, hk0⟩; exact ⟨k, by omega, hk0⟩
      · rintro ⟨k, hk, hk0⟩
        refine ⟨k, ?_, hk0⟩
        rcases Nat.lt_or_ge k (n + 1) with h2 | h2
        · omega
        · rw [show k = n + 1 by omega] at hk0; exact absurd hk0 h1

end Cert.Triplet

end
-- ==== Proof.PointValue.lean ====
module

public import Idealize.ShloMosaic.Lib.Pointwise
public import proofs.«01_k».proof.Proof.PointRows

@[expose] public section

set_option maxRecDepth 16384

noncomputable section

namespace Cert.Triplet

open Idealize.ShloMosaic Idealize.ShloMosaic.TcCoe
open Cert.KernelIdeal Cert.KernelIdeal.Gen

/-! # The loss of one row, as a point of the kernel computes it -/

/-- The loss of a row whose positive and negative are at squared distances `p` and `n`. -/
def lossVal (p n : ℝ) : ℝ := max (Real.sqrt (p + eps) - Real.sqrt (n + eps) + 1) 0

section
variable (x : FVec Ideal S256x256 .f32) (u v w : FVec Ideal S256x1 .f32) (r l : Fin 256)

/-- The squared distance to row 0, as a real number. -/
theorem zeroSq_read {p : ℝ} (h : u (ix2 r 0) = (p : EReal)) : zeroSq (F := Ideal) u (ix2 r 0) = (zeroVal p : EReal) := by
  pointwise [zeroSq]
  rw [h, const_neg2048, const_4096, ← EReal.coe_add, coe_ite_lt, ← EReal.coe_zero, coe_max]
  rfl
/-- The squared distance of the positive, as a real number. -/
theorem posSq_read {p z : ℝ} (h : u (ix2 r 0) = (p : EReal)) (hz : v (ix2 r 0) = (z : EReal)) :
    posSq (F := Ideal) u v (ix2 r 0) = (posVal p z : EReal) := by
  pointwise [posSq]
  rw [h, hz, const_neg2048, const_4096, ← EReal.coe_add, ← EReal.coe_zero, coe_max, coe_ite_lt]
  rfl
/-- The squared bound, as a real number. -/
theorem boundSq_read {p : ℝ} (h : u (ix2 r 0) = (p : EReal)) (h0 : 0 ≤ p) : boundSq (F := Ideal) u (ix2 r 0) = (boundVal p : EReal) := by
  pointwise [boundSq]
  rw [h, sqrt_of_nonneg h0, ← EReal.coe_one, ← EReal.coe_add, ← EReal.coe_mul]
  rfl
/-- The squared distance of the negative, as a real number. -/
theorem negSq_read {s b hm z : ℝ} {t : FVec Ideal S256x1 .f32} (hs : u (ix2 r 0) = (s : EReal)) (hb : v (ix2 r 0) = (b : EReal))
    (hh : w (ix2 r 0) = (hm : EReal)) (hz : t (ix2 r 0) = (z : EReal)) :
    negSq (F := Ideal) u v (hardSq w t) (ix2 r 0) = (negVal s b hm z : EReal) := by
  pointwise [negSq, hardSq]
  rw [hs, hb, hh, hz, const_2048, ← EReal.coe_zero, coe_max, coe_max, coe_ite_lt, coe_ite_lt]
  rfl
/-- The loss of a row, as a real number. -/
theorem rowLoss_read {p n : ℝ} (hp : u (ix2 r 0) = (p : EReal)) (hn : v (ix2 r 0) = (n : EReal)) (h0 : 0 ≤ p) (h1 : 0 ≤ n) :
    rowLoss (F := Ideal) u v (ix2 r 0) = (lossVal p n : EReal) := by
  pointwise [rowLoss]
  have := eps_pos
  rw [hp, hn, const_eps, ← EReal.coe_add, ← EReal.coe_add, sqrt_of_nonneg (by linarith), sqrt_of_nonneg (by linarith), ← EReal.coe_sub,
    ← EReal.coe_one, ← EReal.coe_add, ← EReal.coe_zero, coe_max]
  rfl
/-- An entry kept only beyond the positive, as a real number. -/
theorem beyond_read {p y : ℝ} (hp : u (ix2 r 0) = (p : EReal)) (hx : x (ix2 r l) = (y : EReal)) :
    beyond (F := Ideal) u x (ix2 r l) = ((if p < y then y else 1000000000 : ℝ) : EReal) := by
  pointwise [beyond]
  rw [hp, hx, const_big, coe_ite_lt]
/-- An entry masked on the diagonal, as a real number. -/
theorem offDiagonal_read {y : ℝ} (hx : x (ix2 r l) = (y : EReal)) :
    offDiagonal (F := Ideal) x (ix2 r l) = ((if r = l then 1000000000 else y : ℝ) : EReal) := by
  pointwise [offDiagonal]
  rw [hx, const_big, select_eq]
  have : BitVec.ofNat 32 r.val = BitVec.ofNat 32 l.val ↔ r = l := by
    constructor
    · intro h
      have h := congrArg BitVec.toNat h
      have := r.isLt; have := l.isLt
      rw [BitVec.toNat_ofNat, BitVec.toNat_ofNat, Nat.mod_eq_of_lt (by omega), Nat.mod_eq_of_lt (by omega)] at h
      exact Fin.ext h
    · rintro rfl; rfl
  simp only [this, coe_ite]
end

/-- A row of one step's tile is the anchor only in the first step, on the diagonal. -/
theorem rowOf_eq_iff {k n : ℕ} (hk : k < 16) (hn : n ≤ 15) (r l : Fin 256) : rowOf ((k + n) % 16) l = rowOf k r ↔ n = 0 ∧ r = l := by
  have := r.isLt
  have := l.isLt
  simp only [rowOf, Fin.ext_iff]
  constructor
  · intro h; constructor <;> omega
  · rintro ⟨rfl, h⟩; rw [h]; omega

section
variable {i : grid0.Coords} {v : Vec Ideal S256x118 .f32} {N P : ℕ → Vec Ideal S256x118 .f32} {d : Fin 4096 → ℝ} {same : Fin 4096 → Prop}
  [DecidablePred same] {r : Fin 256} (h0 : ∀ j, 0 ≤ d j) (h1 : ∀ j, d j < 2048)
  (hP : ∀ n, n ≤ 15 → ∀ l : Fin 256, product (F := Ideal) v (P n) (ix2 r l)
    = ((d (rowOf (((i 0).val + n) % 16) l) - shift same (rowOf (((i 0).val + n) % 16) l) : ℝ) : EReal))
  (hN : ∀ n, n ≤ 15 → ∀ l : Fin 256, product (F := Ideal) v (N n) (ix2 r l) = (hardKey d same (rowOf (((i 0).val + n) % 16) l) : EReal))
include h0 h1 hP

/-- A point finds the squared distance of its rows to row 0. -/
theorem pointZero_read : pointZero (F := Ideal) i v P (ix2 r 0) = (d 0 : EReal) := by
  have hc : columnSum (F := Ideal) i (fun n => product v (P n)) 15 (ix2 r 0) = ((d 0 - shift same 0 : ℝ) : EReal) := by
    rw [columnSum_read i _ r ((d 0 - shift same 0 : ℝ) : EReal) _ 15 le_rfl, if_pos]
    · have hi : (i 0).val < 16 := (i 0).isLt
      exact ⟨(16 - (i 0).val) % 16, by omega, by omega⟩
    · intro n hn hz
      show product (F := Ideal) v (P n) (ix2 r 0) = _
      rw [hP n hn 0, hz]
      rfl
  exact (zeroSq_read _ r hc).trans (by rw [zeroVal_eq h0 h1])

/-- A point finds the squared distance of its rows to their positives. -/
theorem pointPos_read {p : Fin 4096} (hp : IsFirstMin (posCost d same (rowOf (i 0).val r)) p) :
    pointPos (F := Ideal) i v P (ix2 r 0) = (d p : EReal) := by
  have hi : (i 0).val < 16 := (i 0).isLt
  obtain ⟨m, hm, e⟩ := sweep_least (i 0).val (maskedFirst (F := Ideal) fun n => product v (P n)) r (posKey d same (rowOf (i 0).val r)) (by
    intro n hn l
    unfold posKey
    simp only [rowOf_eq_iff hi hn]
    rcases n with _ | n
    · simp only [true_and]
      exact offDiagonal_read _ r l (hP 0 hn l)
    · rw [if_neg (by omega)]
      exact hP (n + 1) hn l)
  exact (posSq_read _ _ r e (pointZero_read h0 h1 hP)).trans (by rw [posVal_eq h0 h1 hp hm])

include hN
/-- A point finds the losses of its rows. -/
theorem point_loss {p q s n : Fin 4096} (hp : IsFirstMin (posCost d same (rowOf (i 0).val r)) p) (hq : IsFirstMin (hardCost d same) q)
    (hs : IsFirstMin (semiCost d same (Real.sqrt (d p))) s)
    (hn1 : (∃ j, IsSemi d same (Real.sqrt (d p)) j) → n = s) (hn2 : (¬∃ j, IsSemi d same (Real.sqrt (d p)) j) → n = q) :
    pointLoss (F := Ideal) i v N P (ix2 r 0) = (lossVal (d p) (d n) : EReal) := by
  have ep := pointPos_read h0 h1 hP hp
  obtain ⟨hm, hl, eh⟩ := sweep_least (i 0).val (fun n => product (F := Ideal) v (N n)) r (hardKey d same) hN
  obtain ⟨sm, hsl, es⟩ := sweep_least (i 0).val (fun n => beyond (F := Ideal) (pointPos i v P) (product v (N n))) r (semiKey d same (d p))
    (fun n hn l => beyond_read _ _ r l ep (hN n hn l))
  have en := negSq_read _ _ _ r es (boundSq_read _ r ep (h0 p)) eh (pointZero_read h0 h1 hP)
  rw [negVal_eq h0 h1 (h0 p) (h1 p) hq hs hl hsl n hn1 hn2] at en
  exact rowLoss_read _ _ r ep en (h0 p) (h0 n)
end

section
variable {x0 : FVec Ideal S4096x16 .f32} {x1 : IVec S4096x1 32} {e : Fin 4096 → Fin 16 → ℝ} (he : ∀ a k, x0 (ix2 a k) = (e a k : EReal))
  (hlab : ∀ a, (x1 (ix2 a 0)).toNat < 100)
include he hlab

/-- The entries of the second sweep's tiles and of the first's. -/
theorem neg_entry (k k' : ℕ) (r l : Fin 256) :
    product (F := Ideal) (tileRows (k0_pay5 (F := Ideal) x0 x1) k) (tileRows (k0_pay6 (F := Ideal) x0 x1) k') (ix2 r l)
      = (hardKey (pairSq e (rowOf k r)) (fun j => x1 (ix2 (rowOf k r) 0) = x1 (ix2 j 0)) (rowOf k' l) : EReal) := by
  pointwise [product]
  simp only [tileRows_read, left_read he, neg_read he, ← EReal.coe_mul]
  rw [coe_sum, row_product _ _ _ _ _ (hlab _)]
  rfl
/-- An entry of the first sweep is the squared distance, less the shift where the labels agree. -/
theorem pos_entry (k k' : ℕ) (r l : Fin 256) :
    product (F := Ideal) (tileRows (k0_pay5 (F := Ideal) x0 x1) k) (tileRows (k0_pay7 (F := Ideal) x0 x1) k') (ix2 r l)
      = (pairSq e (rowOf k r) (rowOf k' l) - shift (fun j => x1 (ix2 (rowOf k r) 0) = x1 (ix2 j 0)) (rowOf k' l) : ℝ) := by
  pointwise [product]
  simp only [tileRows_read, left_read he, pos_read he, ← EReal.coe_mul]
  rw [coe_sum, row_product _ _ _ _ _ (hlab _), EReal.coe_eq_coe_iff]
  unfold shift
  split_ifs <;> ring

end

end Cert.Triplet

end
-- ==== Proof.Choice.lean ====
module

public import Idealize.ShloMosaic.Lib.Pointwise
public import proofs.«01_k».proof.Proof.PointValue

@[expose] public section

set_option maxRecDepth 16384

noncomputable section

namespace Cert.Triplet

open Idealize.ShloMosaic

/-! # The value: the mean loss over the anchors, as a real number -/

/-- A function of the rows takes its least value at a first position. -/
theorem exists_firstMin (f : Fin 4096 → ℝ) : ∃ p, IsFirstMin f p := by
  obtain ⟨m, hm⟩ := Finite.exists_min f
  have hne : ({p | ∀ j, f p ≤ f j} : Set (Fin 4096)).Nonempty := ⟨m, hm⟩
  refine ⟨wellFounded_lt.min _ hne, wellFounded_lt.min_mem _ hne, fun j hj => ?_⟩
  by_contra h
  exact wellFounded_lt.not_lt_min {p | ∀ j, f p ≤ f j} (fun k => (not_lt.mp h).trans (wellFounded_lt.min_mem _ hne k) : ∀ k, f j ≤ f k) hj

/-- The first position of the least value. -/
def firstMin (f : Fin 4096 → ℝ) : Fin 4096 := (exists_firstMin f).choose
/-- The chosen position is the first of a least value. -/
theorem firstMin_spec (f : Fin 4096 → ℝ) : IsFirstMin f (firstMin f) := (exists_firstMin f).choose_spec
/-- There is only one first position of a least value. -/
theorem firstMin_unique {f : Fin 4096 → ℝ} {p : Fin 4096} (h : IsFirstMin f p) : p = firstMin f := by
  have h' := firstMin_spec f
  rcases lt_trichotomy p (firstMin f) with hlt | heq | hgt
  · exact absurd (h.1 (firstMin f)) (not_le.mpr (h'.2 p hlt))
  · exact heq
  · exact absurd (h'.1 p) (not_le.mpr (h.2 _ hgt))

section
variable (e : Fin 4096 → Fin 16 → ℝ) (lab : Fin 4096 → BitVec 32) (a : Fin 4096)

/-- The positive and the negative of an anchor. -/
def posOf : Fin 4096 := firstMin (posCost (pairSq e a) (fun j => lab a = lab j) a)
/-- The nearest row of another label. -/
def hardOf : Fin 4096 := firstMin (hardCost (pairSq e a) (fun j => lab a = lab j))
/-- The distance of an anchor to its positive. -/
def posRoot : ℝ := Real.sqrt (pairSq e a (posOf e lab a))
/-- The nearest semi-hard negative. -/
def semiOf : Fin 4096 := firstMin (semiCost (pairSq e a) (fun j => lab a = lab j) (posRoot e lab a))
open Classical in
/-- The negative of an anchor: the nearest semi-hard one where there is one, else the nearest. -/
def negOf : Fin 4096 :=
  if ∃ j, IsSemi (pairSq e a) (fun j => lab a = lab j) (posRoot e lab a) j then semiOf e lab a else hardOf e lab a

/-- The loss of an anchor, and the mean of all. -/
def anchorLoss : ℝ := lossVal (pairSq e a (posOf e lab a)) (pairSq e a (negOf e lab a))
end

/-- The mean loss over the anchors. -/
def meanLoss (e : Fin 4096 → Fin 16 → ℝ) (lab : Fin 4096 → BitVec 32) : ℝ := (∑ a, anchorLoss e lab a) * (1 / 4096)

/-- A sum over the rows, tile by tile. -/
theorem sum_tiles (f : Fin 4096 → ℝ) : ∑ k ∈ Finset.range 16, ∑ r : Fin 256, f (rowOf k r) = ∑ a, f a := by
  rw [Finset.sum_range (n := 16) fun k => ∑ r : Fin 256, f (rowOf k r), ← Fintype.sum_prod_type' (f := fun (k : Fin 16) (r : Fin 256) => f (rowOf k.val r))]
  refine Fintype.sum_equiv (finProdFinEquiv (m := 16) (n := 256)) _ _ fun x => congrArg f (Fin.ext ?_)
  have := x.1.isLt
  have := x.2.isLt
  show (256 * x.1.val + x.2.val) % 4096 = x.2.val + 256 * x.1.val
  omega

end Cert.Triplet

end
-- ==== Proof.KernelValue.lean ====
module

public import Idealize.ShloMosaic.Lib.Pipeline.ValueKit
public import proofs.«01_k».proof.Proof.PointRead
public import proofs.«01_k».proof.Proof.Choice
public import proofs.«01_k».proof.Proof.Launch

@[expose] public section

set_option maxRecDepth 16384

noncomputable section

namespace Cert.Triplet

open Idealize.ShloMosaic Idealize.ShloMosaic.TcCoe
open Cert.KernelIdeal Cert.KernelIdeal.Gen

/-- A point adds the losses of its rows to the output. -/
theorem pointAdd_read (i : grid0.Coords) (v : Vec Ideal S256x118 .f32) (N P : ℕ → Vec Ideal S256x118 .f32) (xo : Vec Ideal S1x1 .f32) :
    pointAdd (F := Ideal) i v N P xo (ix2 0 0) = (xo (ix2 0 0) + ∑ r : Fin 256, (pointLoss (F := Ideal) i v N P (ix2 r 0) : EReal) : EReal) := by
  pointwise [pointAdd, sumRows]
  simp

/-- The output starts at zero. -/
theorem start_total : (k0_pay80 (F := Ideal)) (ix2 0 0) = (0 : EReal) := by
  pointwise [k0_pay80]

/-- The last point divides the output by the number of rows. -/
theorem scaled_read (x : Vec Ideal S1x1 .f32) : k0_pay1 (F := Ideal) x (ix2 0 0) = (x (ix2 0 0) * ((1 / 4096 : ℝ) : EReal) : EReal) := by
  pointwise [k0_pay1]
  rw [const_inv4096]

section
variable (m : (ℓ : Loc nD τ sig) → Buf (Elt Ideal) ℓ) (c : Dev nD)

/-- The block of embeddings is the whole array. -/
theorem emb_index : win0_0.index t0 = ![0, 0] := by decide +kernel
/-- The block of labels is the whole array. -/
theorem tgt_index : win0_1.index t0 = ![0, 0] := by decide +kernel

/-- The labels as a column, which the launch hands the kernel. -/
theorem label_column : V (F := Ideal) m c main_v0
    = shapeCast S4096x1 (m ((c.tc : Thread nD τ).loc main_arg1) : IVec S4096 32) shapeCasts_S4096_S4096x1 := by
  show StableHlo.after (List.flatten [hostOps0]) (fun b => m (c, b)) (Proc.devRef .tc main_v0) = _
  simp only [hostOps0, List.flatten_cons, List.flatten_nil, List.append_nil]
  after_results_simp
  rfl

/-- The kernel reads the embeddings as they are. -/
theorem emb_block (a : Fin 4096) (k : Fin 16) :
    iblk (F := Ideal) m c 0 t0 (ix2 a k) = m ((c.tc : Thread nD τ).loc main_arg0) (ix2 a k) := by
  blk_point [iblk, V, emb_index]
/-- The kernel reads the labels as a column. -/
theorem tgt_block (a : Fin 4096) :
    iblk (F := Ideal) m c 1 t0 (ix2 a 0) = m ((c.tc : Thread nD τ).loc main_arg1) (ix1 a) := by
  have e : iblk (F := Ideal) m c 1 t0 (ix2 a 0)
      = shapeCast S4096x1 (m ((c.tc : Thread nD τ).loc main_arg1) : IVec S4096 32) shapeCasts_S4096_S4096x1 (ix2 a 0) := by
    rw [← label_column m c]
    blk_point [iblk, tgt_index]
  rw [e]
  pointwise

variable {e : Fin 4096 → Fin 16 → ℝ} {lab : Fin 4096 → BitVec 32}
  (he : ∀ a k, m ((c.tc : Thread nD τ).loc main_arg0) (ix2 a k) = (e a k : EReal))
  (hl : ∀ a, m ((c.tc : Thread nD τ).loc main_arg1) (ix1 a) = lab a)
  (hlab : ∀ a, (lab a).toNat < 100) (hn : ∀ a, normSq e a < 512)
include he hl hlab hn

/-- What a point adds to the total: the losses of its rows. -/
theorem add_read (i : grid0.Coords) (xo : Vec Ideal S1x1 .f32) {t : ℝ} (ht : xo (ix2 0 0) = (t : EReal)) :
    addPoint (F := Ideal) m c i xo (ix2 0 0) = ((t + ∑ r : Fin 256, anchorLoss e lab (rowOf (i 0).val r) : ℝ) : EReal) := by
  have hi : (i 0).val < 16 := (i 0).isLt
  have he' : ∀ a k, iblk (F := Ideal) m c 0 t0 (ix2 a k) = (e a k : EReal) := fun a k => (emb_block m c a k).trans (he a k)
  have hl' : ∀ a, iblk (F := Ideal) m c 1 t0 (ix2 a 0) = lab a := fun a => (tgt_block m c a).trans (hl a)
  have hlab' : ∀ a, (iblk (F := Ideal) m c 1 t0 (ix2 a 0) : BitVec 32).toNat < 100 := fun a => by rw [hl' a]; exact hlab a
  unfold addPoint
  rw [leftRows_eq, negRows_eq, posRows_eq]
  refine (pointAdd_read i _ _ _ xo).trans ?_
  rw [ht, EReal.coe_add, ← coe_sum]
  refine congrArg (fun z : EReal => (t : EReal) + z) (Finset.sum_congr rfl fun r _ => ?_)
  classical
  have key := point_loss (i := i) (d := pairSq e (rowOf (i 0).val r)) (same := fun j => lab (rowOf (i 0).val r) = lab j)
    (fun j => pairSq_nonneg e _ j) (fun j => pairSq_lt e hn _ j)
    (fun n hn l => (pos_entry he' hlab' (i 0).val (((i 0).val + n) % 16) r l).trans (by simp only [hl']))
    (fun n hn l => (neg_entry he' hlab' (i 0).val (((i 0).val + n) % 16) r l).trans (by simp only [hl']))
    (n := negOf e lab (rowOf (i 0).val r)) (firstMin_spec _) (firstMin_spec _) (firstMin_spec _) (fun h => if_pos h) (fun h => if_neg h)
  exact key

/-- The running total after point `n`, before the last. -/
theorem total_read (n : ℕ) (h : n < cfg0.N) (h15 : ¬n = 15) :
    totalAt (F := Ideal) m c n h (ix2 0 0) = ((∑ k ∈ Finset.range (n + 1), ∑ r : Fin 256, anchorLoss e lab (rowOf k r) : ℝ) : EReal) := by
  have coord : ∀ t : Fin cfg0.N, (grid0.coords t 0).val = t.val := by decide +kernel
  induction n with
  | zero =>
    rw [total_zero m c h, add_read m c he hl hlab hn _ _ (t := 0) start_total, coord ⟨0, h⟩, Finset.sum_range_one, zero_add]
  | succ n ih =>
    rw [total_succ m c n h h15, add_read m c he hl hlab hn _ _ (ih (Nat.lt_of_succ_lt h) (by rintro rfl; exact absurd h (by decide))), coord ⟨n + 1, h⟩, Finset.sum_range_succ _ (n + 1)]

/-- The last point leaves the mean. -/
theorem total_final (h : 15 < cfg0.N) : totalAt (F := Ideal) m c 15 h (ix2 0 0) = (meanLoss e lab : EReal) := by
  have coord : ∀ t : Fin cfg0.N, (grid0.coords t 0).val = t.val := by decide +kernel
  rw [total_end m c h, scaled_read, add_read m c he hl hlab hn _ _ (total_read m c he hl hlab hn 14 (Nat.lt_of_succ_lt h) (by omega)), coord ⟨15, h⟩,
    ← Finset.sum_range_succ (fun k => ∑ r : Fin 256, anchorLoss e lab (rowOf k r)) 15, sum_tiles, ← EReal.coe_mul]
  rfl

/-- The output array ends at the mean. -/
theorem out_array : (dats (F := Ideal) m 0 c).arrAt 2 cfg0.N = fun _ => (meanLoss e lab : EReal) := by
  refine (dats (F := Ideal) m 0 c).arrAt_eq_of_after_last 2 ⟨15, by decide⟩ (by decide +kernel) _ fun j => ?_
  blk_simp
  have hj : ∀ y : S1x1.Idx, y = ix2 0 0 := fun y => by
    funext a; fin_cases a <;> exact Subsingleton.elim (α := Fin 1) _ _
  exact (congrFun (after_out m c _) _).trans ((congrArg _ (hj _)).trans (total_final m c he hl hlab hn _))

/-- The kernel's result ends at the mean. -/
theorem result : Pipeline.afterTail₀ cfgs (dats (F := Ideal) m) 0 (V0 m) [hostOps1] c main_v2 = fun _ => (meanLoss e lab : EReal) := by
  unfold Pipeline.afterTail₀
  simp only [hostOps1, List.flatten_cons, List.flatten_nil, List.append_nil]
  after_results_simp
  have ha : Pipeline.withArrays (cfgs 0).spec c (V0 m c) (fun w => (dats (F := Ideal) m 0 c).arrAt w (cfgs 0).N) (Proc.tc.devRef main_v1)
      = fun _ => (meanLoss e lab : EReal) :=
    (Pipeline.withArrays_arr spec0 (by decide) c _ _ 2).trans (out_array m c he hl hlab hn)
  rw [ha]
  rfl

end
end Cert.Triplet

end
-- ==== Proof.ArgMin.lean ====
module

public import Idealize.ShloMosaic.Lib.Pointwise
public import Idealize.ShloMosaic.PureOps.Ideal.Laws
public import Idealize.ShloMosaic.Lib.Routing.Ops
public import proofs.«01_k».proof.Proof.Gen.ReferenceIdeal
public import proofs.«01_k».proof.Proof.Choice

@[expose] public section

set_option maxRecDepth 16384

noncomputable section

namespace Cert.Triplet.Ref

open Idealize.ShloMosaic Idealize.ShloMosaic.TcCoe
open Cert.ReferenceIdeal Cert.ReferenceIdeal.Gen

/-! # The reference's position of the least, its tests over a row, and its reads at a position -/

/-- Whether a pair comes before another: by value, then by position. -/
def Before (a b : EReal × BitVec 32) : Prop := a.1 < b.1 ∨ (a.1 = b.1 ∧ a.2.toInt ≤ b.2.toInt)

/-- Coming first is transitive. -/
theorem Before.trans {a b c : EReal × BitVec 32} (h : Before a b) (h' : Before b c) : Before a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩
/-- Every pair comes no later than itself. -/
theorem Before.refl (a : EReal × BitVec 32) : Before a a := Or.inr ⟨rfl, le_rfl⟩

/-- The reducer keeps one of its two pairs, and it comes before both. -/
theorem reducer_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨a1, a2⟩ := a
  obtain ⟨b1, b2⟩ := b
  have key : reducer_argmin_f32_i32 (F := Ideal) (a1, a2) (b1, b2)
      = if a1 < b1 ∨ (a1 = b1 ∧ a2.toInt < b2.toInt) then (a1, a2) else (b1, b2) := by
    unfold reducer_argmin_f32_i32
    by_cases h1 : a1 < b1
    · simp [Ideal.cmpf_def, Ideal.cmp, Scalar.select, h1, IntOp.ori, IntOp.andi, h1.ne]
    · by_cases h2 : a1 = b1
      · subst h2
        by_cases h3 : a2.toInt < b2.toInt
        · simp [Ideal.cmpf_def, Ideal.cmp, Scalar.select, IntOp.ori, IntOp.andi, IntOp.cmpi, BitVec.slt, h3]
        · simp [Ideal.cmpf_def, Ideal.cmp, Scalar.select, IntOp.ori, IntOp.andi, IntOp.cmpi, BitVec.slt, h3]
      · simp [Ideal.cmpf_def, Ideal.cmp, Scalar.select, h1, h2, IntOp.ori, IntOp.andi]
  rw [key]
  split_ifs with h
  · refine ⟨Or.inl rfl, Before.refl _, ?_⟩
    rcases h with h | ⟨h, k⟩
    · exact Or.inl h
    · exact Or.inr ⟨h, k.le⟩
  · refine ⟨Or.inr rfl, ?_, Before.refl _⟩
    rw [not_or, not_and] at h
    rcases lt_or_eq_of_le (not_lt.mp h.1) with h' | h'
    · exact Or.inl h'
    · exact Or.inr ⟨h', not_lt.mp (h.2 h'.symm)⟩

/-- So does the fold over a list. -/
theorem fold_spec (l : List (EReal × BitVec 32)) (b : EReal × BitVec 32) :
    (l.foldl (reducer_argmin_f32_i32 (F := Ideal)) b = b ∨ l.foldl (reducer_argmin_f32_i32 (F := Ideal)) b ∈ l)
      ∧ Before (l.foldl (reducer_argmin_f32_i32 (F := Ideal)) b) b
      ∧ ∀ p ∈ l, Before (l.foldl (reducer_argmin_f32_i32 (F := Ideal)) b) p := by
  induction l generalizing b with
  | nil => exact ⟨Or.inl rfl, Before.refl _, fun p hp => absurd hp List.not_mem_nil⟩
  | cons a l ih =>
    obtain ⟨h1, h2, h3⟩ := ih (reducer_argmin_f32_i32 (F := Ideal) b a)
    obtain ⟨k1, k2, k3⟩ := reducer_spec b a
    rw [List.foldl_cons]
    refine ⟨?_, h2.trans k2, ?_⟩
    · rcases h1 with h1 | h1
      · rcases k1 with k1 | k1
        · exact Or.inl (h1.trans k1)
        · exact Or.inr (List.mem_cons.mpr (Or.inl (h1.trans k1)))
      · exact Or.inr (List.mem_cons_of_mem _ h1)
    · intro p hp
      rcases List.mem_cons.mp hp with rfl | hp
      · exact h2.trans k3
      · exact h3 p hp

/-- The entries a row's reduction runs over. -/
theorem row_iff (a : Fin 4096) (i : S4096x4096.Idx) : (reducesTo_S4096x4096_S4096_d1.drop i = ix1 a) ↔ i 0 = a := by
  constructor
  · intro h
    have h0 := congrArg (fun z : S4096.Idx => (z 0).val) h
    exact Fin.ext ((reducesTo_S4096x4096_S4096_d1.drop_apply_val_of_eq i 0 0).symm.trans h0)
  · intro h
    funext b
    obtain rfl : b = 0 := Subsingleton.elim _ _
    exact Fin.ext ((reducesTo_S4096x4096_S4096_d1.drop_apply_val_of_eq i 0 0).trans (congrArg Fin.val h))

/-- The pairs a row's reduction runs over. -/
theorem row_pairs {α β : Type} (x : S4096x4096.Idx → α) (y : S4096x4096.Idx → β) (a : Fin 4096) (p : α × β) :
    p ∈ Host.argReduceFiber x y reducesTo_S4096x4096_S4096_d1 (ix1 a) ↔ ∃ j : Fin 4096, p = (x (ix2 a j), y (ix2 a j)) := by
  unfold Host.argReduceFiber
  simp only [List.mem_map, List.mem_filter, List.mem_finRange, true_and, decide_eq_true_eq, row_iff]
  constructor
  · rintro ⟨n, hn, rfl⟩
    refine ⟨S4096x4096.rowMajor.symm n 1, ?_⟩
    rw [show S4096x4096.rowMajor.symm n = ix2 a (S4096x4096.rowMajor.symm n 1) from (eq_ix2 _).trans (by rw [hn]; rfl)]
    rfl
  · rintro ⟨j, rfl⟩
    exact ⟨S4096x4096.rowMajor (ix2 a j), by rw [Equiv.symm_apply_apply]; rfl, by rw [Equiv.symm_apply_apply]⟩

/-- A position read as a signed word is itself. -/
theorem toInt_ofNat (j : Fin 4096) : (BitVec.ofNat 32 j.val).toInt = (j.val : ℤ) := by
  have := j.isLt
  rw [BitVec.toInt_eq_toNat_of_lt (by rw [BitVec.toNat_ofNat]; omega), BitVec.toNat_ofNat, Nat.mod_eq_of_lt (by omega)]

/-- The arg-min of a row of real values is the first position of its least. -/
theorem argmin_read (x : FVec Ideal S4096x4096 .f32) (a : Fin 4096) (f : Fin 4096 → ℝ) (hx : ∀ j, x (ix2 a j) = (f j : EReal)) :
    (Host.argReduce (reducer_argmin_f32_i32 (F := Ideal)) x (iotaInDim S4096x4096 32 1) (constant S_ .f32 0x7F800000#32) (constantI S_ 32 0#32)
      reducesTo_S4096x4096_S4096_d1 h_S_ (ix1 a)).2 = BitVec.ofNat 32 (firstMin f).val := by
  rw [Ideal.argReduce_eq_reduce2, Host.reduce2_eq_foldl_fiber]
  have hy : ∀ j : Fin 4096, iotaInDim S4096x4096 32 1 (ix2 a j) = BitVec.ofNat 32 j.val := fun j => rfl
  have mem := row_pairs x (iotaInDim S4096x4096 32 1) a
  obtain ⟨h1, h2, h3⟩ := fold_spec (Host.argReduceFiber x (iotaInDim S4096x4096 32 1) reducesTo_S4096x4096_S4096_d1 (ix1 a))
    ((constant (F := Ideal) S_ .f32 0x7F800000#32) (Shape.Idx.first h_S_), (constantI S_ 32 0#32) (Shape.Idx.first h_S_))
  generalize hr : List.foldl (reducer_argmin_f32_i32 (F := Ideal)) _ _ = r at h1 h2 h3 ⊢
  have low : ∀ j, Before r ((f j : EReal), BitVec.ofNat 32 j.val) := fun j => by
    have := h3 _ ((mem _).mpr ⟨j, rfl⟩)
    rwa [hx j, hy j] at this
  have hne : ∃ j, r = ((f j : EReal), BitVec.ofNat 32 j.val) := by
    rcases h1 with h1 | h1
    · exfalso
      have top : r.1 = (⊤ : EReal) := by rw [h1]; exact const_top
      rcases low 0 with h | ⟨h, -⟩
      · rw [top] at h; exact not_top_lt h
      · rw [top] at h; exact EReal.coe_ne_top _ h.symm
    · obtain ⟨j, hj⟩ := (mem _).mp h1
      exact ⟨j, by rw [hj, hx j, hy j]⟩
  obtain ⟨p, hp⟩ := hne
  have first : IsFirstMin f p := by
    refine ⟨fun j => ?_, fun j hj => ?_⟩ <;> rcases hp ▸ low j with h | ⟨h, k⟩
    · exact (EReal.coe_lt_coe_iff.mp h).le
    · exact (EReal.coe_eq_coe_iff.mp h).le
    · exact EReal.coe_lt_coe_iff.mp h
    · have hj' : j.val < p.val := hj
      simp only [toInt_ofNat] at k
      omega
  rw [hp, firstMin_unique first]

/-- A conjunction of ones is one. -/
theorem all_ones {s t u : Shape} {axes : List (Fin s.rank)} (x : IVec s 1) (init : IVec u 1) (h : s.ReducesTo axes t) (hu : 0 < u.numel) (j : t.Idx)
    (hx : ∀ i, x i = 1#1) (hi : init (Shape.Idx.first hu) = 1#1) : Host.reduce IntOp.andi x init h hu j = 1#1 := by
  rw [Host.reduce_eq_foldl, hi]
  generalize List.filter _ _ = l
  induction l with
  | nil => rfl
  | cons a l ih => rw [List.foldl_cons, hx a]; exact ih

/-- A disjunction over a row is one exactly where an entry is. -/
theorem any_one (x : IVec S4096x4096 1) (a : Fin 4096) :
    Host.reduce IntOp.ori x (constantI S_ 1 0#1) reducesTo_S4096x4096_S4096_d1 h_S_ (ix1 a) = 1#1 ↔ ∃ j : Fin 4096, x (ix2 a j) = 1#1 := by
  have fold : ∀ (l : List (S4096x4096.Idx)) (b : BitVec 1), l.foldl (fun r i => IntOp.ori r (x i)) b = 1#1 ↔ b = 1#1 ∨ ∃ i ∈ l, x i = 1#1 := by
    intro l
    induction l with
    | nil => intro b; simp
    | cons i l ih =>
      intro b
      rw [List.foldl_cons, ih]
      have : ∀ p q : BitVec 1, IntOp.ori p q = 1#1 ↔ p = 1#1 ∨ q = 1#1 := by decide
      rw [this]
      simp only [List.mem_cons, exists_eq_or_imp, or_assoc]
  rw [Host.reduce_eq_foldl, fold]
  simp only [List.mem_filter, List.mem_map, List.mem_finRange, true_and, decide_eq_true_eq, row_iff]
  constructor
  · rintro (h | ⟨i, ⟨-, h⟩, hi⟩)
    · exact absurd h (by decide)
    · refine ⟨i 1, ?_⟩
      rw [← h, ← eq_ix2]
      exact hi
  · rintro ⟨j, hj⟩
    exact Or.inr ⟨ix2 a j, ⟨⟨S4096x4096.rowMajor (ix2 a j), Equiv.symm_apply_apply _ _⟩, rfl⟩, hj⟩

/-- Reading a row of the embeddings at an index that holds a position. -/
theorem row_gather {α : Type} (x : S4096x16.Idx → α) (idx : IVec S4096x1 32) (a p : Fin 4096) (k : Fin 16)
    (h : idx (ix2 a 0) = BitVec.ofNat 32 p.val) :
    Host.gather gather_S4096x16_S4096x1_S4096x16_1_0_n_n_0_1_116 x idx (ix2 a k) = x (ix2 p k) :=
  Routing.gather_row gather_S4096x16_S4096x1_S4096x16_1_0_n_n_0_1_116 rfl rfl rfl rfl rfl x idx a k p h (by decide)

/-- Reading a row's own entry at an index that holds a position. -/
theorem entry_gather {α : Type} (x : S4096x4096.Idx → α) (idx : IVec S4096x1x1 32) (a p : Fin 4096)
    (h : idx (ix3 a 0 0) = BitVec.ofNat 32 p.val) :
    Host.gather gather_S4096x4096_S4096x1x1_S4096x1_n_1_0_0_1_2_11 x idx (ix2 a 0) = x (ix2 a p) := by
  refine congrArg x (funext fun b => Fin.ext ?_)
  match b with
  | ⟨0, hb⟩ =>
    show GatherDims.start _ (ix2 a 0) idx 0 + GatherDims.batchCoord _ (ix2 a 0) 0 + GatherDims.offCoord _ (ix2 a 0) 0 = a.val
    rw [GatherDims.start_batching _ _ _ _ (List.mem_singleton.mpr rfl),
      GatherDims.offCoord_eq_zero _ _ _ fun hk => ((GatherDims.mem_sKept _ _).mp hk).2 (List.mem_singleton.mpr rfl), Nat.zero_add, Nat.add_zero]
    rfl
  | ⟨1, hb⟩ =>
    show GatherDims.start _ (ix2 a 0) idx 1 + GatherDims.batchCoord _ (ix2 a 0) 1 + GatherDims.offCoord _ (ix2 a 0) 1 = p.val
    rw [GatherDims.batchCoord_eq_zero _ _ _ (fun hk => absurd hk (by decide)),
      GatherDims.offCoord_eq_zero _ _ _ fun hk => ((GatherDims.mem_sKept _ _).mp hk).1 (List.mem_singleton.mpr rfl), Nat.add_zero]
    have at0 : GatherDims.start gather_S4096x4096_S4096x1x1_S4096x1_n_1_0_0_1_2_11 (ix2 a 0) idx 1
        = min (idx (ix3 a 0 0)).toInt.toNat 4095 := by
      unfold GatherDims.start
      rw [dif_pos (show (1 : Fin 2) ∈ gather_S4096x4096_S4096x1x1_S4096x1_n_1_0_0_1_2_11.startIndexMap from List.mem_singleton.mpr rfl)]
      refine congrArg (fun z => min (idx z).toInt.toNat 4095) (funext fun b => Fin.ext ?_)
      match b with
      | ⟨0, _⟩ => rfl
      | ⟨1, _⟩ => rfl
      | ⟨2, _⟩ => rfl
    rw [at0, h, toInt_ofNat]
    have := p.isLt
    omega

end Cert.Triplet.Ref

end
-- ==== Proof.RefValue.lean ====
module

public import Idealize.ShloMosaic.Lib.Pointwise
public import proofs.«01_k».proof.Proof.ArgMin

@[expose] public section

set_option maxRecDepth 16384

noncomputable section

namespace Cert.Triplet.Ref

open Idealize.ShloMosaic Idealize.ShloMosaic.TcCoe
open Cert.ReferenceIdeal Cert.ReferenceIdeal.Gen

/-- Comparing words for equality gives the bit of the equality. -/
theorem cmpi_eq {w : ℕ} (x y : BitVec w) : IntOp.cmpi .eq x y = BitVec.ofBool (decide (x = y)) := by
  unfold IntOp.cmpi; congr 1
/-- The conjunction of two bits is the bit of the conjunction. -/
theorem and_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]
/-- The complement of a bit is the bit of the negation. -/
theorem not_ofBool (p : Prop) [Decidable p] : ~~~BitVec.ofBool (decide p) = BitVec.ofBool (decide ¬p) := by
  by_cases hp : p <;> simp [hp]
/-- A choice by the bit of a proposition. -/
theorem select_ofBool {α : Type} (p : Prop) [Decidable p] (x y : α) :
    Scalar.select (BitVec.ofBool (decide p)) x y = if p then x else y := by
  by_cases hp : p <;> simp [hp, Scalar.select]
/-- Positions are told apart by their words. -/
theorem ofNat_eq_iff (a b : Fin 4096) : BitVec.ofNat 32 a.val = BitVec.ofNat 32 b.val ↔ a = b := by
  constructor
  · intro h
    have h := congrArg BitVec.toInt h
    rw [toInt_ofNat, toInt_ofNat] at h
    exact Fin.ext (by omega)
  · rintro rfl; rfl

/-- A position is not negative, so it is taken as it is, and it is in range. -/
theorem wrapped (p : Fin 4096) : Scalar.select (IntOp.cmpi .slt (BitVec.ofNat 32 p.val) 0#32)
    (IntOp.addi (BitVec.ofNat 32 p.val) 4096#32) (BitVec.ofNat 32 p.val) = BitVec.ofNat 32 p.val := by
  have : IntOp.cmpi .slt (BitVec.ofNat 32 p.val) 0#32 = 0#1 := by
    have h : ¬(p.val : ℤ) < 0 := by omega
    simp [IntOp.cmpi, BitVec.slt, toInt_ofNat, h]
  rw [this]; rfl
/-- A position passes the range check of the gathers. -/
theorem ranged (p : Fin 4096) : IntOp.andi (IntOp.cmpi .sge (BitVec.ofNat 32 p.val) 0#32)
    (IntOp.cmpi .sle (BitVec.ofNat 32 p.val) 4095#32) = 1#1 := by
  have := p.isLt
  have h : (p.val : ℤ) ≤ 4095 := by omega
  simp [IntOp.cmpi, IntOp.andi, BitVec.sle, toInt_ofNat, h]

/-- The rows of the embeddings at a column of positions. -/
theorem rows_read (A : FVec Ideal S4096x16 .f32) (P : IVec S4096x1 32) (p : Fin 4096 → Fin 4096) (hP : ∀ a, P (ix2 a 0) = BitVec.ofNat 32 (p a).val)
    (N : FVec Ideal S4096x16 .f32) (a : Fin 4096) (k : Fin 16) :
    select (broadcastInDim S4096x16 ![0] bcast_S4096_S4096x16_0 (Host.reduce IntOp.andi (andi
        (cmpi .sge P (broadcastInDim S4096x1 ![] bcast_S_S4096x1 (constantI S_ 32 0#32)))
        (cmpi .sle P (broadcastInDim S4096x1 ![0, 1] bcast_S1x1_S4096x1_0_1 (broadcastInDim S1x1 ![1] bcast_S1_S1x1_1 (constantI S1 32 4095#32)))))
        (constantI S_ 1 1#1) reducesTo_S4096x1_S4096_d1 h_S_))
      (Host.gather gather_S4096x16_S4096x1_S4096x16_1_0_n_n_0_1_116 A P) N (ix2 a k) = A (ix2 (p a) k) := by
  refine (congrArg (fun c => Scalar.select c _ _) (all_ones _ _ _ _ _ (fun i => ?_) rfl)).trans (row_gather A P a (p a) k (hP a))
  have hi : i = ix2 (i 0) 0 := (eq_ix2 i).trans (congrArg (ix2 (i 0)) (Subsingleton.elim (α := Fin 1) _ _))
  show IntOp.andi (IntOp.cmpi .sge (P i) 0#32) (IntOp.cmpi .sle (P i) 4095#32) = 1#1
  rw [hi]
  exact (congrArg (fun z => IntOp.andi (IntOp.cmpi .sge z 0#32) (IntOp.cmpi .sle z 4095#32)) (hP (i 0))).trans (ranged _)

/-- Every row's own entry at a position. -/
theorem entries_read (D : FVec Ideal S4096x4096 .f32) (P : IVec S4096x1x1 32) (p : Fin 4096 → Fin 4096)
    (hP : ∀ a, P (ix3 a 0 0) = BitVec.ofNat 32 (p a).val) (N : FVec Ideal S4096x1 .f32) (a : Fin 4096) :
    select (Host.reduce IntOp.andi (andi (cmpi .sge P (broadcastInDim S4096x1x1 ![] bcast_S_S4096x1x1 (constantI S_ 32 0#32)))
        (cmpi .sle P (broadcastInDim S4096x1x1 ![0, 1, 2] bcast_S1x1x1_S4096x1x1_0_1_2 (broadcastInDim S1x1x1 ![2] bcast_S1_S1x1x1_2 (constantI S1 32 4095#32)))))
        (constantI S_ 1 1#1) reducesTo_S4096x1x1_S4096x1_d2 h_S_)
      (Host.gather gather_S4096x4096_S4096x1x1_S4096x1_n_1_0_0_1_2_11 D P) N (ix2 a 0) = D (ix2 a (p a)) := by
  refine (congrArg (fun c => Scalar.select c _ _) (all_ones _ _ _ _ _ (fun i => ?_) rfl)).trans (entry_gather D P a (p a) (hP a))
  have hi : i = ix3 (i 0) 0 0 := by
    funext b
    match b with
    | ⟨0, _⟩ => rfl
    | ⟨1, _⟩ => exact Subsingleton.elim (α := Fin 1) _ _
    | ⟨2, _⟩ => exact Subsingleton.elim (α := Fin 1) _ _
  show IntOp.andi (IntOp.cmpi .sge (P i) 0#32) (IntOp.cmpi .sle (P i) 4095#32) = 1#1
  rw [hi]
  exact (congrArg (fun z => IntOp.andi (IntOp.cmpi .sge z 0#32) (IntOp.cmpi .sle z 4095#32)) (hP (i 0))).trans (ranged _)

/-! ## The vectors of the reference, as functions of one another -/

/-- The distances of every two rows. -/
def gPair (A : FVec Ideal S4096x16 .f32) : FVec Ideal S4096x4096 .f32 :=
  Host.sqrt (maximumf (broadcastInDim S4096x4096 ![] bcast_S_S4096x4096 (id (constant S_ .f32 0x00000000#32))) (subf (addf
    (broadcastInDim S4096x4096 ![0, 1] bcast_S4096x1_S4096x4096_0_1 (broadcastInDim S4096x1 ![0] bcast_S4096_S4096x1_0
      (Host.reduceAdd (mulf A A) (constant S_ .f32 0x00000000#32) reducesTo_S4096x16_S4096_d1 h_S_)))
    (broadcastInDim S4096x4096 ![0, 1] bcast_S1x4096_S4096x4096_0_1 (broadcastInDim S1x4096 ![1] bcast_S4096_S1x4096_1
      (Host.reduceAdd (mulf A A) (constant S_ .f32 0x00000000#32) reducesTo_S4096x16_S4096_d1 h_S_))))
    (mulf (broadcastInDim S4096x4096 ![] bcast_S_S4096x4096 (constant S_ .f32 0x40000000#32))
      (Host.dotGeneral dot_S4096x16_S16x4096_S4096x4096_1_0_0_1_n_n none A (transpose S16x4096 [1, 0] A transposes_S4096x16_S16x4096_1_0)))))
/-- Whether two labels are equal. -/
def gSame (T : IVec S4096 32) : IVec S4096x4096 1 :=
  cmpi .eq (broadcastInDim S4096x4096 ![0, 1] bcast_S4096x1_S4096x4096_0_1 (broadcastInDim S4096x1 ![0] bcast_S4096_S4096x1_0 T))
    (broadcastInDim S4096x4096 ![0, 1] bcast_S1x4096_S4096x4096_0_1 (broadcastInDim S1x4096 ![1] bcast_S4096_S1x4096_1 T))
/-- The distances where a mask holds, and a large number elsewhere. -/
def gKeep (M : IVec S4096x4096 1) (D : FVec Ideal S4096x4096 .f32) : FVec Ideal S4096x4096 .f32 :=
  select M D (broadcastInDim S4096x4096 ![] bcast_S_S4096x4096 (id (constant S_ .f32 0x4E6E6B28#32)))
/-- Equal labels off the diagonal. -/
def gPosMask (S : IVec S4096x4096 1) : IVec S4096x4096 1 :=
  andi S (noti (cmpi .eq (addi (iotaInDim S4096x4096 32 0) (broadcastInDim S4096x4096 ![] bcast_S_S4096x4096 (constantI S_ 32 0#32))) (iotaInDim S4096x4096 32 1)))
/-- The position of every row's least entry. -/
def gArg (x : FVec Ideal S4096x4096 .f32) : IVec S4096 32 :=
  fun j => (Host.argReduce (reducer_argmin_f32_i32 (F := Ideal)) x (iotaInDim S4096x4096 32 1) (constant S_ .f32 0x7F800000#32) (constantI S_ 32 0#32) reducesTo_S4096x4096_S4096_d1 h_S_ j).2
/-- Positions as the gather of entries takes them. -/
def gAt3 (I : IVec S4096 32) : IVec S4096x1x1 32 :=
  shapeCast S4096x1x1 (select (cmpi .slt (broadcastInDim S4096x1 ![0] bcast_S4096_S4096x1_0 I) (broadcastInDim S4096x1 ![] bcast_S_S4096x1 (constantI S_ 32 0#32)))
    (addi (broadcastInDim S4096x1 ![0] bcast_S4096_S4096x1_0 I) (broadcastInDim S4096x1 ![] bcast_S_S4096x1 (constantI S_ 32 4096#32)))
    (broadcastInDim S4096x1 ![0] bcast_S4096_S4096x1_0 I)) shapeCasts_S4096x1_S4096x1x1
/-- Every row's entry at its position. -/
def gEntry (D : FVec Ideal S4096x4096 .f32) (P : IVec S4096x1x1 32) : FVec Ideal S4096 .f32 :=
  shapeCast S4096 (select (Host.reduce IntOp.andi (andi (cmpi .sge P (broadcastInDim S4096x1x1 ![] bcast_S_S4096x1x1 (constantI S_ 32 0#32)))
        (cmpi .sle P (broadcastInDim S4096x1x1 ![0, 1, 2] bcast_S1x1x1_S4096x1x1_0_1_2 (broadcastInDim S1x1x1 ![2] bcast_S1_S1x1x1_2 (constantI S1 32 4095#32)))))
        (constantI S_ 1 1#1) reducesTo_S4096x1x1_S4096x1_d2 h_S_)
      (Host.gather gather_S4096x4096_S4096x1x1_S4096x1_n_1_0_0_1_2_11 D P) (broadcastInDim S4096x1 ![] bcast_S_S4096x1 (constant S_ .f32 0x7FC00000#32))) shapeCasts_S4096x1_S4096
/-- Unequal labels at a distance between the positive's and that plus one. -/
def gSemi (S : IVec S4096x4096 1) (D : FVec Ideal S4096x4096 .f32) (d : FVec Ideal S4096 .f32) : IVec S4096x4096 1 :=
  andi (andi (noti S) (cmpf .ogt D (broadcastInDim S4096x4096 ![0, 1] bcast_S4096x1_S4096x4096_0_1 (broadcastInDim S4096x1 ![0] bcast_S4096_S4096x1_0 d))))
    (cmpf .olt D (broadcastInDim S4096x4096 ![0, 1] bcast_S4096x1_S4096x4096_0_1 (addf (broadcastInDim S4096x1 ![0] bcast_S4096_S4096x1_0 d) (broadcastInDim S4096x1 ![] bcast_S_S4096x1 (constant S_ .f32 0x3F800000#32)))))
/-- The first positions where a row of the mask has a one, else the second. -/
def gChoose (M : IVec S4096x4096 1) (I J : IVec S4096 32) : IVec S4096 32 :=
  select (Host.reduce IntOp.ori M (constantI S_ 1 0#1) reducesTo_S4096x4096_S4096_d1 h_S_) I J
/-- Positions as the gather of rows takes them. -/
def gAt (I : IVec S4096 32) : IVec S4096x1 32 :=
  broadcastInDim S4096x1 ![0] bcast_S4096_S4096x1_0 (select (cmpi .slt I (broadcastInDim S4096 ![] bcast_S_S4096 (constantI S_ 32 0#32)))
    (addi I (broadcastInDim S4096 ![] bcast_S_S4096 (constantI S_ 32 4096#32))) I)
/-- The rows less the rows at their positions. -/
def gDiff (A : FVec Ideal S4096x16 .f32) (P : IVec S4096x1 32) : FVec Ideal S4096x16 .f32 :=
  subf A (select (broadcastInDim S4096x16 ![0] bcast_S4096_S4096x16_0 (Host.reduce IntOp.andi (andi
        (cmpi .sge P (broadcastInDim S4096x1 ![] bcast_S_S4096x1 (constantI S_ 32 0#32)))
        (cmpi .sle P (broadcastInDim S4096x1 ![0, 1] bcast_S1x1_S4096x1_0_1 (broadcastInDim S1x1 ![1] bcast_S1_S1x1_1 (constantI S1 32 4095#32)))))
        (constantI S_ 1 1#1) reducesTo_S4096x1_S4096_d1 h_S_))
      (Host.gather gather_S4096x16_S4096x1_S4096x16_1_0_n_n_0_1_116 A P) (broadcastInDim S4096x16 ![] bcast_S_S4096x16 (constant S_ .f32 0x7FC00000#32)))
/-- The roots of the rows' squared norms plus the small number. -/
def gRoot (X : FVec Ideal S4096x16 .f32) : FVec Ideal S4096 .f32 :=
  Host.sqrt (addf (Host.reduceAdd (mulf X X) (constant S_ .f32 0x00000000#32) reducesTo_S4096x16_S4096_d1 h_S_) (broadcastInDim S4096 ![] bcast_S_S4096 (constant S_ .f32 0x2B8CBCCC#32)))
/-- The mean of the losses. -/
def gMean (p n : FVec Ideal S4096 .f32) : FVec Ideal S_ .f32 :=
  Host.divf (Host.reduceAdd (maximumf (addf (subf p n) (broadcastInDim S4096 ![] bcast_S_S4096 (constant S_ .f32 0x3F800000#32)))
    (broadcastInDim S4096 ![] bcast_S_S4096 (constant S_ .f32 0x00000000#32))) (constant S_ .f32 0x00000000#32) reducesTo_S4096_S_d0 h_S_) (constant S_ .f32 0x45800000#32)

/-! ## Their entries -/

/-- A distance is the root of the squared distance. -/
theorem gPair_read (A : FVec Ideal S4096x16 .f32) {e : Fin 4096 → Fin 16 → ℝ} (he : ∀ a k, A (ix2 a k) = (e a k : EReal)) (a b : Fin 4096) :
    gPair A (ix2 a b) = (Real.sqrt (pairSq e a b) : EReal) := by
  pointwise [gPair]
  have hd : (∑ x, A (ix2 a x) * A (ix2 b x)) = ((∑ x, e a x * e b x : ℝ) : EReal) := by
    rw [← coe_sum]; exact Finset.sum_congr rfl fun k _ => by rw [he, he, EReal.coe_mul]
  rw [sum_sq he a, sum_sq he b, hd, const_two, ← EReal.coe_add, ← EReal.coe_mul, ← EReal.coe_sub,
    show (id (constant (F := Ideal) S_ .f32 0#32) ix0 : EReal) = ((0 : ℝ) : EReal) from Ideal.ofBits_zero_f32, coe_max]
  rw [show normSq e a + normSq e b - 2 * ∑ x, e a x * e b x = pairSq e a b from rfl, max_eq_right (pairSq_nonneg e a b)]
  exact sqrt_of_nonneg (pairSq_nonneg e a b)

/-- The bit of two labels being equal. -/
theorem gSame_read (T : IVec S4096 32) (a b : Fin 4096) : gSame T (ix2 a b) = BitVec.ofBool (decide (T (ix1 a) = T (ix1 b))) := by
  pointwise [gSame]
  rw [cmpi_eq]

/-- A kept distance, as a real number. -/
theorem gKeep_read (M : IVec S4096x4096 1) (D : FVec Ideal S4096x4096 .f32) {a b : Fin 4096} {p : Prop} [Decidable p] {d : ℝ}
    (hM : M (ix2 a b) = BitVec.ofBool (decide p)) (hD : D (ix2 a b) = (d : EReal)) :
    gKeep M D (ix2 a b) = ((if p then d else 1000000000 : ℝ) : EReal) := by
  pointwise [gKeep]
  rw [hM, hD, select_ofBool, show (id (constant (F := Ideal) S_ .f32 0x4E6E6B28#32) ix0 : EReal) = ((1000000000 : ℝ) : EReal) from const_big]
  split_ifs <;> rfl

/-- The bit of a row being a positive. -/
theorem gPosMask_read (S : IVec S4096x4096 1) {a b : Fin 4096} {p : Prop} [Decidable p] (hS : S (ix2 a b) = BitVec.ofBool (decide p)) :
    gPosMask S (ix2 a b) = BitVec.ofBool (decide (p ∧ ¬b = a)) := by
  pointwise [gPosMask]
  rw [hS, cmpi_eq, not_ofBool, and_ofBool]
  simp only [IntOp.addi, BitVec.add_zero, ofNat_eq_iff, eq_comm (a := a) (b := b)]

/-- The position is the first of the row's least entry. -/
theorem gArg_read (x : FVec Ideal S4096x4096 .f32) (a : Fin 4096) (f : Fin 4096 → ℝ) (hx : ∀ j, x (ix2 a j) = (f j : EReal)) :
    gArg x (ix1 a) = BitVec.ofNat 32 (firstMin f).val := by
  have h : gArg x = fun j => (Host.argReduce (reducer_argmin_f32_i32 (F := Ideal)) x (iotaInDim S4096x4096 32 1) (constant S_ .f32 0x7F800000#32) (constantI S_ 32 0#32) reducesTo_S4096x4096_S4096_d1 h_S_ j).2 := rfl
  exact (congrFun h (ix1 a)).trans (argmin_read x a f hx)

/-- A position is passed on as it is. -/
theorem gAt3_read (I : IVec S4096 32) (a p : Fin 4096) (h : I (ix1 a) = BitVec.ofNat 32 p.val) : gAt3 I (ix3 a 0 0) = BitVec.ofNat 32 p.val := by
  pointwise [gAt3]
  rw [h]
  exact wrapped p

/-- The entry read is the one at the position. -/
theorem gEntry_read (D : FVec Ideal S4096x4096 .f32) (P : IVec S4096x1x1 32) (p : Fin 4096 → Fin 4096)
    (hP : ∀ a, P (ix3 a 0 0) = BitVec.ofNat 32 (p a).val) (a : Fin 4096) : gEntry D P (ix1 a) = D (ix2 a (p a)) := by
  have h := entries_read D P p hP (broadcastInDim S4096x1 ![] bcast_S_S4096x1 (constant S_ .f32 0x7FC00000#32)) a
  unfold gEntry
  generalize select (Host.reduce IntOp.andi _ _ _ _) _ _ = X at h ⊢
  pointwise
  exact h

/-- The bit of a row being a semi-hard negative. -/
theorem gSemi_read (S : IVec S4096x4096 1) (D : FVec Ideal S4096x4096 .f32) (d : FVec Ideal S4096 .f32) {a b : Fin 4096} {p : Prop} [Decidable p] {x y : ℝ}
    (hS : S (ix2 a b) = BitVec.ofBool (decide p)) (hD : D (ix2 a b) = (x : EReal)) (hd : d (ix1 a) = (y : EReal)) [Decidable ((¬p ∧ y < x) ∧ x < y + 1)] :
    gSemi S D d (ix2 a b) = BitVec.ofBool (decide ((¬p ∧ y < x) ∧ x < y + 1)) := by
  pointwise [gSemi]
  rw [hS, hD, hd, not_ofBool, and_ofBool, and_ofBool]
  refine congrArg BitVec.ofBool (decide_eq_decide.mpr ?_)
  rw [EReal.coe_lt_coe_iff, show ((y : EReal) + 1) = ((y + 1 : ℝ) : EReal) by rw [EReal.coe_add, EReal.coe_one], EReal.coe_lt_coe_iff]

/-- The bit of two labels being unequal. -/
theorem gNot_read (S : IVec S4096x4096 1) {a b : Fin 4096} {p : Prop} [Decidable p] (hS : S (ix2 a b) = BitVec.ofBool (decide p)) :
    noti S (ix2 a b) = BitVec.ofBool (decide ¬p) := by
  show ~~~S (ix2 a b) = _
  rw [hS, not_ofBool]

/-- The choice is by whether the row of the mask has a one. -/
theorem gChoose_read (M : IVec S4096x4096 1) (I J : IVec S4096 32) (a : Fin 4096) {p : Fin 4096 → Prop} [DecidablePred p] [Decidable (∃ j, p j)]
    (hM : ∀ j, M (ix2 a j) = BitVec.ofBool (decide (p j))) : gChoose M I J (ix1 a) = if ∃ j, p j then I (ix1 a) else J (ix1 a) := by
  show Scalar.select (Host.reduce IntOp.ori M (constantI S_ 1 0#1) reducesTo_S4096x4096_S4096_d1 h_S_ (ix1 a)) (I (ix1 a)) (J (ix1 a)) = _
  have h := any_one M a
  generalize Host.reduce IntOp.ori M (constantI S_ 1 0#1) reducesTo_S4096x4096_S4096_d1 h_S_ (ix1 a) = c at h ⊢
  have hq : c = 1#1 ↔ ∃ j, p j := h.trans (exists_congr fun j => by rw [hM j]; by_cases hp : p j <;> simp [hp])
  exact if_congr hq rfl rfl

/-- A position is passed on as it is. -/
theorem gAt_read (I : IVec S4096 32) (a p : Fin 4096) (h : I (ix1 a) = BitVec.ofNat 32 p.val) : gAt I (ix2 a 0) = BitVec.ofNat 32 p.val := by
  pointwise [gAt]
  rw [h]
  exact wrapped p

/-- The difference of two rows, entry by entry. -/
theorem gDiff_read (A : FVec Ideal S4096x16 .f32) (P : IVec S4096x1 32) (p : Fin 4096 → Fin 4096) (hP : ∀ a, P (ix2 a 0) = BitVec.ofNat 32 (p a).val)
    {e : Fin 4096 → Fin 16 → ℝ} (he : ∀ a k, A (ix2 a k) = (e a k : EReal)) (a : Fin 4096) (k : Fin 16) :
    gDiff A P (ix2 a k) = ((e a k - e (p a) k : ℝ) : EReal) := by
  have h := rows_read A P p hP (broadcastInDim S4096x16 ![] bcast_S_S4096x16 (constant S_ .f32 0x7FC00000#32)) a k
  refine (congrArg (fun z : EReal => A (ix2 a k) - z) h).trans ?_
  show (A (ix2 a k) - A (ix2 (p a) k) : EReal) = _
  rw [he, he, EReal.coe_sub]

/-- The root of the squared distance plus the small number. -/
theorem gRoot_read (X : FVec Ideal S4096x16 .f32) {e : Fin 4096 → Fin 16 → ℝ} {a p : Fin 4096}
    (hX : ∀ k, X (ix2 a k) = ((e a k - e p k : ℝ) : EReal)) : gRoot X (ix1 a) = (Real.sqrt (pairSq e a p + eps) : EReal) := by
  pointwise [gRoot]
  have hd : (∑ x, X (ix2 a x) * X (ix2 a x)) = ((pairSq e a p : ℝ) : EReal) := by
    rw [pairSq_eq, ← coe_sum]; exact Finset.sum_congr rfl fun k _ => by rw [hX, EReal.coe_mul]
  rw [hd, const_eps, ← EReal.coe_add]
  exact sqrt_of_nonneg (add_nonneg (pairSq_nonneg e a p) eps_pos.le)

/-- The mean of the losses, as a real number. -/
theorem gMean_read (P N : FVec Ideal S4096 .f32) (p n : Fin 4096 → ℝ) (hP : ∀ a, P (ix1 a) = (Real.sqrt (p a + eps) : EReal))
    (hN : ∀ a, N (ix1 a) = (Real.sqrt (n a + eps) : EReal)) :
    gMean P N = fun _ => (((∑ a, lossVal (p a) (n a)) * (1 / 4096) : ℝ) : EReal) := by
  funext i
  obtain rfl : i = ix0 := funext fun d => d.elim0
  pointwise [gMean]
  have hs : (∑ a, max (P (ix1 a) - N (ix1 a) + 1) 0 : EReal) = ((∑ a, lossVal (p a) (n a) : ℝ) : EReal) := by
    rw [← coe_sum]
    refine Finset.sum_congr rfl fun a _ => ?_
    unfold lossVal
    rw [hP, hN, ← coe_max, EReal.coe_add, EReal.coe_sub, EReal.coe_one, EReal.coe_zero]
  rw [hs, const_4096]
  exact (Ideal.div_coe (by norm_num) _).trans (EReal.coe_mul _ _).symm

/-! ## The reference's result -/

/-- The positives. -/
def gPosI (A : FVec Ideal S4096x16 .f32) (T : IVec S4096 32) : IVec S4096 32 := gArg (gKeep (gPosMask (gSame T)) (gPair A))
/-- The distances to the positives. -/
def gPosD (A : FVec Ideal S4096x16 .f32) (T : IVec S4096 32) : FVec Ideal S4096 .f32 := gEntry (gPair A) (gAt3 (gPosI A T))
/-- The semi-hard negatives. -/
def gSemiM (A : FVec Ideal S4096x16 .f32) (T : IVec S4096 32) : IVec S4096x4096 1 := gSemi (gSame T) (gPair A) (gPosD A T)
/-- The negatives. -/
def gNegI (A : FVec Ideal S4096x16 .f32) (T : IVec S4096 32) : IVec S4096 32 :=
  gChoose (gSemiM A T) (gArg (gKeep (gSemiM A T) (gPair A))) (gArg (gKeep (noti (gSame T)) (gPair A)))
/-- The mean loss as the reference computes it. -/
def gLoss (A : FVec Ideal S4096x16 .f32) (T : IVec S4096 32) : FVec Ideal S_ .f32 :=
  gMean (gRoot (gDiff A (gAt (gPosI A T)))) (gRoot (gDiff A (gAt (gNegI A T))))

section
variable (A : FVec Ideal S4096x16 .f32) (T : IVec S4096 32) {e : Fin 4096 → Fin 16 → ℝ} (he : ∀ a k, A (ix2 a k) = (e a k : EReal)) (a : Fin 4096)
include he

/-- The reference's positive is the one defined. -/
theorem gPosI_read : gPosI A T (ix1 a) = BitVec.ofNat 32 (posOf e (fun j => T (ix1 j)) a).val :=
  gArg_read _ a _ fun b => (gKeep_read _ _ (gPosMask_read _ (gSame_read T a b)) (gPair_read A he a b)).trans (by
    unfold posCost; exact congrArg _ (if_congr Iff.rfl rfl rfl))
/-- The reference's distance to the positive is the one defined. -/
theorem gPosD_read : gPosD A T (ix1 a) = (posRoot e (fun j => T (ix1 j)) a : EReal) :=
  (gEntry_read _ _ _ (fun a => gAt3_read _ a _ (gPosI_read A T he a)) a).trans (gPair_read A he a _)
open Classical in
/-- The reference's semi-hard negatives are the ones defined. -/
theorem gSemiM_read (b : Fin 4096) : gSemiM A T (ix2 a b) =
    BitVec.ofBool (decide (IsSemi (pairSq e a) (fun j => T (ix1 a) = T (ix1 j)) (posRoot e (fun j => T (ix1 j)) a) b)) :=
  (gSemi_read _ _ _ (gSame_read T a b) (gPair_read A he a b) (gPosD_read A T he a)).trans (congrArg BitVec.ofBool (decide_eq_decide.mpr Iff.rfl))
/-- The reference's negative is the one defined. -/
theorem gNegI_read : gNegI A T (ix1 a) = BitVec.ofNat 32 (negOf e (fun j => T (ix1 j)) a).val := by
  classical
  refine (gChoose_read _ _ _ a (gSemiM_read A T he a)).trans ?_
  have h1 := gArg_read _ a (semiCost (pairSq e a) (fun j => T (ix1 a) = T (ix1 j)) (posRoot e (fun j => T (ix1 j)) a))
    (fun b => (gKeep_read _ _ (gSemiM_read A T he a b) (gPair_read A he a b)).trans (by unfold semiCost; exact congrArg _ (if_congr Iff.rfl rfl rfl)))
  have h2 := gArg_read _ a (hardCost (pairSq e a) (fun j => T (ix1 a) = T (ix1 j)))
    (fun b => (gKeep_read _ _ (gNot_read _ (gSame_read T a b)) (gPair_read A he a b)).trans (by unfold hardCost; exact congrArg _ (if_congr Iff.rfl rfl rfl)))
  rw [h1, h2]
  unfold negOf semiOf hardOf
  split_ifs <;> rfl
end

/-- From real embeddings the reference computes the mean loss. -/
theorem gLoss_read (A : FVec Ideal S4096x16 .f32) (T : IVec S4096 32) {e : Fin 4096 → Fin 16 → ℝ} (he : ∀ a k, A (ix2 a k) = (e a k : EReal)) :
    gLoss A T = fun _ => (meanLoss e (fun j => T (ix1 j)) : EReal) :=
  gMean_read _ _ (fun a => pairSq e a (posOf e (fun j => T (ix1 j)) a)) (fun a => pairSq e a (negOf e (fun j => T (ix1 j)) a))
    (fun a => gRoot_read _ fun k => gDiff_read A _ _ (fun a => gAt_read _ a _ (gPosI_read A T he a)) he a k)
    (fun a => gRoot_read _ fun k => gDiff_read A _ _ (fun a => gAt_read _ a _ (gNegI_read A T he a)) he a k)

end Cert.Triplet.Ref

end
-- ==== Proof.RefReal.lean ====
module

public import proofs.«01_k».proof.Proof.RefRun
public import proofs.«01_k».proof.Proof.RefValue

@[expose] public section

set_option maxRecDepth 16384

noncomputable section

namespace Cert.Triplet.Ref

open Idealize.ShloMosaic Idealize.ShloMosaic.TcCoe Idealize.SL.Sem Idealize.ShloMosaic.StableHlo
open Cert.ReferenceIdeal Cert.ReferenceIdeal.Gen

/-! # The run of the reference, as a real number -/

section
variable (V0 : Valuation τ sig (Elt Ideal))

/-- The arguments. -/
def embArg : FVec Ideal S4096x16 .f32 := V0 (Proc.devRef .tc main_arg0)
/-- The labels. -/
def labArg : IVec S4096 32 := V0 (Proc.devRef .tc main_arg1)

/-! Every vector of the run is the function of the arguments that `RefValue` reads. -/

/-- The distances. -/
theorem pairDist_eq : pairDist (F := Ideal) V0 = gPair (embArg V0) := rfl
/-- The equal labels. -/
theorem sameLabel_eq : sameLabel (F := Ideal) V0 = gSame (labArg V0) := rfl
/-- The distances of the positives. -/
theorem posCand_eq : posCand (F := Ideal) V0 = gKeep (gPosMask (gSame (labArg V0))) (gPair (embArg V0)) :=
  (show posCand (F := Ideal) V0 = gKeep (gPosMask (sameLabel (F := Ideal) V0)) (pairDist (F := Ideal) V0) from rfl).trans
    (congrArg₂ gKeep (congrArg gPosMask (sameLabel_eq V0)) (pairDist_eq V0))
/-- The positives. -/
theorem posIdx_eq : posIdx (F := Ideal) V0 = gPosI (embArg V0) (labArg V0) :=
  (show posIdx (F := Ideal) V0 = gArg (posCand (F := Ideal) V0) from rfl).trans (congrArg gArg (posCand_eq V0))
/-- The distances to the positives. -/
theorem posDist_eq : posDist (F := Ideal) V0 = gPosD (embArg V0) (labArg V0) :=
  (show posDist (F := Ideal) V0 = gEntry (pairDist (F := Ideal) V0) (gAt3 (posIdx (F := Ideal) V0)) from rfl).trans
    (congrArg₂ gEntry (pairDist_eq V0) (congrArg gAt3 (posIdx_eq V0)))
/-- The semi-hard negatives. -/
theorem semiMask_eq : semiMask (F := Ideal) V0 = gSemiM (embArg V0) (labArg V0) := by
  refine (show semiMask (F := Ideal) V0 = gSemi (sameLabel (F := Ideal) V0) (pairDist (F := Ideal) V0) (posDist (F := Ideal) V0) from rfl).trans ?_
  rw [sameLabel_eq, pairDist_eq, posDist_eq]
  rfl
/-- The negatives. -/
theorem negIdx_eq : negIdx (F := Ideal) V0 = gNegI (embArg V0) (labArg V0) := by
  refine (show negIdx (F := Ideal) V0 = gChoose (semiMask (F := Ideal) V0) (gArg (gKeep (semiMask (F := Ideal) V0) (pairDist (F := Ideal) V0)))
    (gArg (gKeep (noti (sameLabel (F := Ideal) V0)) (pairDist (F := Ideal) V0))) from rfl).trans ?_
  rw [sameLabel_eq, pairDist_eq, semiMask_eq]
  rfl
/-- The differences to the positives. -/
theorem posDiff_eq : posDiff (F := Ideal) V0 = gDiff (embArg V0) (gAt (gPosI (embArg V0) (labArg V0))) :=
  (show posDiff (F := Ideal) V0 = gDiff (embArg V0) (gAt (posIdx (F := Ideal) V0)) from rfl).trans
    (congrArg (fun I => gDiff (embArg V0) (gAt I)) (posIdx_eq V0))
/-- The differences to the negatives. -/
theorem negDiff_eq : negDiff (F := Ideal) V0 = gDiff (embArg V0) (gAt (gNegI (embArg V0) (labArg V0))) :=
  (show negDiff (F := Ideal) V0 = gDiff (embArg V0) (gAt (negIdx (F := Ideal) V0)) from rfl).trans
    (congrArg (fun I => gDiff (embArg V0) (gAt I)) (negIdx_eq V0))

/-- The result's composed term. -/
theorem loss_eq : gMean (gRoot (posDiff (F := Ideal) V0)) (gRoot (negDiff (F := Ideal) V0)) = gLoss (embArg V0) (labArg V0) :=
  congrArg₂ (fun x y => gMean (gRoot x) (gRoot y)) (posDiff_eq V0) (negDiff_eq V0)
end

/-- The reference run from real embeddings ends with the mean loss, and keeps its arguments. -/
theorem run_real (m : (ℓ : Loc nD τ sig) → Buf (Elt Ideal) ℓ) (ρ : Dev nD → PrngReg) (e : Dev nD → Fin 4096 → Fin 16 → ℝ) (lab : Dev nD → Fin 4096 → BitVec 32)
    (he : ∀ (c : Dev nD) a k, m ((c.tc : Thread nD τ).loc main_arg0) (ix2 a k) = (e c a k : EReal))
    (hl : ∀ (c : Dev nD) a, m ((c.tc : Thread nD τ).loc main_arg1) (ix1 a) = lab c a) :
    θ_run (defs (F := Ideal)) (onTc (τ := τ) (main (F := Ideal))) ⟨m, fun _ => 0, ρ⟩ fun r => ∀ c : Dev nD,
      r.2.mem ((c.tc : Thread nD τ).loc main_v68) = (fun _ => (meanLoss (e c) (lab c) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h c).1.trans (loss_eq (launchContents m c))).trans
      ((gLoss_read (embArg (launchContents m c)) (labArg (launchContents m c)) (he c)).trans
        (congrArg (fun l : Fin 4096 → BitVec 32 => fun _ => (meanLoss (e c) l : EReal)) (funext (hl c)))), (h c).2⟩) (run (F := Ideal) m ρ)

end Cert.Triplet.Ref

end
-- ==== Proof.Algebraic.lean ====
module

public import Idealize.ShloMosaic.Lib.Claim
public import proofs.«01_k».proof.Proof.Frames
public import proofs.«01_k».proof.Proof.Range
public import proofs.«01_k».proof.Proof.KernelValue
public import proofs.«01_k».proof.Proof.RefReal

@[expose] public section

noncomputable section

namespace Cert.Triplet

open Idealize.ShloMosaic Idealize.SL.Sem

/-- The frames from in-range arguments: the frames proved need no range. -/
theorem frame_ideal_range : Cert.quiescent_KernelIdeal_pre_in_range (hKernelIdeal := Cert.KernelIdeal.Gen.facts) (hPre_in_range := rangeFacts) :=
  fun m ρ _ => frame_ideal m ρ trivial
/-- The reference runs from in-range arguments, keeps them and ends quiescent. -/
theorem frame_reference_range :
    Cert.quiescent_ReferenceIdeal_pre_in_range (hReferenceIdeal := Cert.ReferenceIdeal.Gen.facts) (hPre_in_range := rangeFacts) :=
  fun m ρ _ => frame_reference m ρ trivial

section
open Cert.KernelIdeal Cert.KernelIdeal.Gen

/-- The result is a buffer of its own, apart from the arrays the launch works on. -/
theorem result_apart : main_v2 ∈ Pipeline.restRefs sig (cfgs 0).spec := by decide +kernel

/-- The kernel run from real embeddings of bounded norm ends with the mean loss, and keeps its arguments. -/
theorem kernel_real (m : (ℓ : Loc nD τ sig) → Buf (Elt Ideal) ℓ) (ρ : Dev nD → PrngReg) (e : Dev nD → Fin 4096 → Fin 16 → ℝ) (lab : Dev nD → Fin 4096 → BitVec 32)
    (he : ∀ (c : Dev nD) a k, m ((c.tc : Thread nD τ).loc main_arg0) (ix2 a k) = (e c a k : EReal))
    (hl : ∀ (c : Dev nD) a, m ((c.tc : Thread nD τ).loc main_arg1) (ix1 a) = lab c a)
    (hlab : ∀ c a, (lab c a).toNat < 100) (hn : ∀ c a, normSq (e c) a < 512) :
    θ_run (defs (F := Ideal)) (onTc (τ := τ) (main (F := Ideal))) ⟨m, fun _ => 0, ρ⟩ fun r => ∀ c : Dev nD,
      r.2.mem ((c.tc : Thread nD τ).loc main_v2) = (fun _ => (meanLoss (e c) (lab c) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨((h.1.1 c).2 main_v2 result_apart).trans (result m c (he c) (hl c) (hlab c) (hn c)), h.2.1 c⟩)
    (θ_run_and (run_main (F := Ideal) m ρ) (kernel_frame (F := Ideal) m ρ))
end

/-- From in-range arguments the kernel and the reference both end with the mean loss over the anchors. -/
theorem algebraic : Cert.algebraic_KernelIdeal_ReferenceIdeal_pre_in_range (hKernelIdeal := Cert.KernelIdeal.Gen.facts)
    (hReferenceIdeal := Cert.ReferenceIdeal.Gen.facts) (hPre_in_range := rangeFacts) := fun m g m' g' hpre hargs => by
  let e : Dev Cert.KernelIdeal.nD → Fin 4096 → Fin 16 → ℝ := fun c a k =>
    (m ((c.tc : Thread Cert.KernelIdeal.nD Cert.KernelIdeal.τ).loc Cert.KernelIdeal.main_arg0) (ix2 a k) : EReal).toReal
  let lab : Dev Cert.KernelIdeal.nD → Fin 4096 → BitVec 32 := fun c a =>
    m ((c.tc : Thread Cert.KernelIdeal.nD Cert.KernelIdeal.τ).loc Cert.KernelIdeal.main_arg1) (ix1 a)
  haveI : Cert.Pre_in_range.Facts := rangeFacts
  have range := fun c => range_real _ _ (hpre c)
  exact ⟨fun c => fun _ => (meanLoss (e c) (lab c) : EReal),
    kernel_real m g e lab (fun c => (range c).1) (fun _ _ => rfl) (fun c => (range c).2.2) (fun c => (range c).2.1),
    Ref.run_real m' g' e lab (fun c a k => (congrFun (hargs c).1 (ix2 a k)).trans ((range c).1 a k)) (fun c a => congrFun (hargs c).2 (ix1 a))⟩

end Cert.Triplet

end
-- ==== Proof.lean ====
/- The claims about the triplet-mining kernel, each from the module that proves it. -/
module

public import proofs.«01_k».proof.Defs
public import proofs.«01_k».proof.Proof.Frames
public import proofs.«01_k».proof.Proof.Algebraic

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts, Cert.Triplet.rangeFacts,
  Cert.Triplet.frame_kernel, Cert.Triplet.frame_ideal, Cert.Triplet.frame_ideal_range,
  Cert.Triplet.frame_reference, Cert.Triplet.frame_reference_range, trivial, Cert.Triplet.algebraic⟩

end Cert.Proof

end
